-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![32768, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![32768, 256]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 256]⟩ ⟨2, ![32768, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![32768, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .bf16) (main_arg1 : FVec F S4096x256 .bf16) (main_arg2 : FVec F S4096x256 .bf16) : IVec S_ 1 :=
  let main_v0 : FVec F S4096x256 .bf16 := Host.absf main_arg0
  let main_cst : FVec F S_ .bf16 := constant S_ .bf16 0x7F80#16
  let main_v1 : FVec F S4096x256 .bf16 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .bf16 := Host.absf main_arg1
  let main_cst_0 : FVec F S_ .bf16 := constant S_ .bf16 0x7F80#16
  let main_v5 : FVec F S4096x256 .bf16 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Pre_finite_scores_ReferenceIdeal.lean ====
abbrev S32768x256 : Shape := ⟨2, ![32768, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x256 .bf16) (main_arg1 : FVec F S32768x256 .bf16) (main_arg2 : FVec F S32768x256 .bf16) : IVec S_ 1 :=
  let main_v0 : FVec F S32768x256 .bf16 := Host.absf main_arg0
  let main_cst : FVec F S_ .bf16 := constant S_ .bf16 0x7F80#16
  let main_v1 : FVec F S32768x256 .bf16 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .bf16 := Host.absf main_arg1
  let main_cst_0 : FVec F S_ .bf16 := constant S_ .bf16 0x7F80#16
  let main_v5 : FVec F S32768x256 .bf16 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  main_v8
-- ==== Kernel.lean ====
abbrev S4096x256 : Shape := ⟨2, ![4096, 256]⟩
abbrev S4x2x2048x256 : Shape := ⟨4, ![4, 2, 2048, 256]⟩
abbrev S4096x1 : Shape := ⟨2, ![4096, 1]⟩
abbrev S4 : Shape := ⟨1, ![4]⟩
abbrev S_ : Shape := ⟨0, ![]⟩
abbrev S2048x256 : Shape := ⟨2, ![2048, 256]⟩
abbrev S1x1x2048x256 : Shape := ⟨4, ![1, 1, 2048, 256]⟩
abbrev S1 : Shape := ⟨1, ![1]⟩
abbrev S1x2x2048x256 : Shape := ⟨4, ![1, 2, 2048, 256]⟩
abbrev S2x2048x256 : Shape := ⟨3, ![2, 2048, 256]⟩
abbrev S512x256 : Shape := ⟨2, ![512, 256]⟩
abbrev S512x1 : Shape := ⟨2, ![512, 1]⟩
abbrev S512x2048 : Shape := ⟨2, ![512, 2048]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .bf16⟩
  | .hbm, ⟨3, _⟩ => ⟨S4096x256, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .f32⟩
  | .local _ .vmem, ⟨4, _⟩ => ⟨S4x2x2048x256, .bf16⟩
  | .local _ .vmem, ⟨5, _⟩ => ⟨S4x2x2048x256, .bf16⟩
  | .local _ .vmem, ⟨6, _⟩ => ⟨S4096x1, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v57 : BitVec 32 := Scalar.muli v13 c1_i32_50
  let v58 : BitVec 32 := Scalar.addi c0_i32_51 v57
  v58.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_62 : BitVec 32 := 1#32
  let v67 : BitVec 32 := Scalar.muli v25 c1_i32_62
  let v68 : BitVec 32 := Scalar.addi c0_i32_63 v67
  v68.toNat
@[reducible] def k0_t1_loop : Scf.Loop 32 :=
  let c0_i32_70 : BitVec 32 := 0#32
  let c8_i32_71 : BitVec 32 := 8#32
  let v77 : BitVec 32 := Scalar.addi c0_i32_70 c8_i32_71
  let c1_i32_72 : BitVec 32 := 1#32
  ⟨c0_i32_70, v77, c1_i32_72⟩
def k0_off1 (k0_t1 : Fin k0_t1_loop.trips) : Fin 2 → Nat :=
  let c0_i32_70 : BitVec 32 := 0#32
  let c1_i32_72 : BitVec 32 := 1#32
  let arg13 : BitVec 32 := Scf.iv c0_i32_70 c1_i32_72 k0_t1
  let c512_i32 : BitVec 32 := 512#32
  let v423 : BitVec 32 := Scalar.muli arg13 c512_i32
  let v424 : Index := Scalar.indexCast v423
  let c0_613 : Index := 0#32
  ![v424.toNat, 0]
def k0_off2 (k0_t1 : Fin k0_t1_loop.trips) : Fin 2 → Nat :=
  let c0_i32_70 : BitVec 32 := 0#32
  let c1_i32_72 : BitVec 32 := 1#32
  let arg13 : BitVec 32 := Scf.iv c0_i32_70 c1_i32_72 k0_t1
  let c512_i32 : BitVec 32 := 512#32
  let v423 : BitVec 32 := Scalar.muli arg13 c512_i32
  let v432 : Index := Scalar.indexCast v423
  let c0_616 : Index := 0#32
  ![v432.toNat, 0]
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v106 : BitVec 32 := Scalar.muli v25 c1_i32_121
  let v107 : BitVec 32 := Scalar.addi c0_i32_122 v106
  v107.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_124 : BitVec 32 := 1#32
  let v108 : BitVec 32 := Scalar.muli v13 c1_i32_124
  let v109 : BitVec 32 := Scalar.addi c0_i32_125 v108
  v109.toNat
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_130 : BitVec 32 := 1#32
  let v110 : BitVec 32 := Scalar.muli v13 c1_i32_130
  let v111 : BitVec 32 := Scalar.addi c0_i32_131 v110
  v111.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_142 : BitVec 32 := 1#32
  let v120 : BitVec 32 := Scalar.muli v25 c1_i32_142
  let v121 : BitVec 32 := Scalar.addi c0_i32_143 v120
  v121.toNat
@[reducible] def k0_t2_loop : Scf.Loop 32 :=
  let c0_i32_150 : BitVec 32 := 0#32
  let c8_i32_151 : BitVec 32 := 8#32
  let v130 : BitVec 32 := Scalar.addi c0_i32_150 c8_i32_151
  let c1_i32_152 : BitVec 32 := 1#32
  ⟨c0_i32_150, v130, c1_i32_152⟩
def k0_off3 (k0_t2 : Fin k0_t2_loop.trips) : Fin 2 → Nat :=
  let c0_i32_150 : BitVec 32 := 0#32
  let c1_i32_152 : BitVec 32 := 1#32
  let arg13 : BitVec 32 := Scf.iv c0_i32_150 c1_i32_152 k0_t2
  let c512_i32 : BitVec 32 := 512#32
  let v423 : BitVec 32 := Scalar.muli arg13 c512_i32
  let v424 : Index := Scalar.indexCast v423
  let c0_613 : Index := 0#32
  ![v424.toNat, 0]
def k0_off4 (k0_t2 : Fin k0_t2_loop.trips) : Fin 2 → Nat :=
  let c0_i32_150 : BitVec 32 := 0#32
  let c1_i32_152 : BitVec 32 := 1#32
  let arg13 : BitVec 32 := Scf.iv c0_i32_150 c1_i32_152 k0_t2
  let c512_i32 : BitVec 32 := 512#32
  let v423 : BitVec 32 := Scalar.muli arg13 c512_i32
  let v432 : Index := Scalar.indexCast v423
  let c0_616 : Index := 0#32
  ![v432.toNat, 0]
def k0_dev9 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_201 : BitVec 32 := 1#32
  let v159 : BitVec 32 := Scalar.muli v25 c1_i32_201
  let v160 : BitVec 32 := Scalar.addi c0_i32_202 v159
  v160.toNat
def k0_dev10 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_204 : BitVec 32 := 1#32
  let v161 : BitVec 32 := Scalar.muli v13 c1_i32_204
  let v162 : BitVec 32 := Scalar.addi c0_i32_205 v161
  v162.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_209 : BitVec 32 := 1#32
  let v163 : BitVec 32 := Scalar.muli v13 c1_i32_209
  let v164 : BitVec 32 := Scalar.addi c0_i32_210 v163
  v164.toNat
def k0_dev12 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_221 : BitVec 32 := 1#32
  let v173 : BitVec 32 := Scalar.muli v25 c1_i32_221
  let v174 : BitVec 32 := Scalar.addi c0_i32_222 v173
  v174.toNat
@[reducible] def k0_t3_loop : Scf.Loop 32 :=
  let c0_i32_229 : BitVec 32 := 0#32
  let c8_i32_230 : BitVec 32 := 8#32
  let v183 : BitVec 32 := Scalar.addi c0_i32_229 c8_i32_230
  let c1_i32_231 : BitVec 32 := 1#32
  ⟨c0_i32_229, v183, c1_i32_231⟩
def k0_off5 (k0_t3 : Fin k0_t3_loop.trips) : Fin 2 → Nat :=
  let c0_i32_229 : BitVec 32 := 0#32
  let c1_i32_231 : BitVec 32 := 1#32
  let arg13 : BitVec 32 := Scf.iv c0_i32_229 c1_i32_231 k0_t3
  let c512_i32 : BitVec 32 := 512#32
  let v423 : BitVec 32 := Scalar.muli arg13 c512_i32
  let v424 : Index := Scalar.indexCast v423
  let c0_613 : Index := 0#32
  ![v424.toNat, 0]
def k0_off6 (k0_t3 : Fin k0_t3_loop.trips) : Fin 2 → Nat :=
  let c0_i32_229 : BitVec 32 := 0#32
  let c1_i32_231 : BitVec 32 := 1#32
  let arg13 : BitVec 32 := Scf.iv c0_i32_229 c1_i32_231 k0_t3
  let c512_i32 : BitVec 32 := 512#32
  let v423 : BitVec 32 := Scalar.muli arg13 c512_i32
  let v432 : Index := Scalar.indexCast v423
  let c0_616 : Index := 0#32
  ![v432.toNat, 0]
def k0_dev13 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_280 : BitVec 32 := 1#32
  let v212 : BitVec 32 := Scalar.muli v25 c1_i32_280
  let v213 : BitVec 32 := Scalar.addi c0_i32_281 v212
  v213.toNat
def k0_dev14 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_283 : BitVec 32 := 1#32
  let v214 : BitVec 32 := Scalar.muli v13 c1_i32_283
  let v215 : BitVec 32 := Scalar.addi c0_i32_284 v214
  v215.toNat
def k0_dev15 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_293 : BitVec 32 := 1#32
  let v216 : BitVec 32 := Scalar.muli v13 c1_i32_293
  let v217 : BitVec 32 := Scalar.addi c0_i32_294 v216
  v217.toNat
def k0_dev16 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_305 : BitVec 32 := 1#32
  let v226 : BitVec 32 := Scalar.muli v25 c1_i32_305
  let v227 : BitVec 32 := Scalar.addi c0_i32_306 v226
  v227.toNat
@[reducible] def k0_t4_loop : Scf.Loop 32 :=
  let c0_i32_313 : BitVec 32 := 0#32
  let c8_i32_314 : BitVec 32 := 8#32
  let v236 : BitVec 32 := Scalar.addi c0_i32_313 c8_i32_314
  let c1_i32_315 : BitVec 32 := 1#32
  ⟨c0_i32_313, v236, c1_i32_315⟩
def k0_off7 (k0_t4 : Fin k0_t4_loop.trips) : Fin 2 → Nat :=
  let c0_i32_313 : BitVec 32 := 0#32
  let c1_i32_315 : BitVec 32 := 1#32
  let arg13 : BitVec 32 := Scf.iv c0_i32_313 c1_i32_315 k0_t4
  let c512_i32 : BitVec 32 := 512#32
  let v423 : BitVec 32 := Scalar.muli arg13 c512_i32
  let v424 : Index := Scalar.indexCast v423
  let c0_613 : Index := 0#32
  ![v424.toNat, 0]
def k0_off8 (k0_t4 : Fin k0_t4_loop.trips) : Fin 2 → Nat :=
  let c0_i32_313 : BitVec 32 := 0#32
  let c1_i32_315 : BitVec 32 := 1#32
  let arg13 : BitVec 32 := Scf.iv c0_i32_313 c1_i32_315 k0_t4
  let c512_i32 : BitVec 32 := 512#32
  let v423 : BitVec 32 := Scalar.muli arg13 c512_i32
  let v432 : Index := Scalar.indexCast v423
  let c0_616 : Index := 0#32
  ![v432.toNat, 0]
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_364 : BitVec 32 := 1#32
  let v265 : BitVec 32 := Scalar.muli v25 c1_i32_364
  let v266 : BitVec 32 := Scalar.addi c0_i32_365 v265
  v266.toNat
def k0_dev18 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_367 : BitVec 32 := 1#32
  let v267 : BitVec 32 := Scalar.muli v13 c1_i32_367
  let v268 : BitVec 32 := Scalar.addi c0_i32_368 v267
  v268.toNat
def k0_dev19 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_377 : BitVec 32 := 1#32
  let v269 : BitVec 32 := Scalar.muli v13 c1_i32_377
  let v270 : BitVec 32 := Scalar.addi c0_i32_378 v269
  v270.toNat
def k0_dev20 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_389 : BitVec 32 := 1#32
  let v279 : BitVec 32 := Scalar.muli v25 c1_i32_389
  let v280 : BitVec 32 := Scalar.addi c0_i32_390 v279
  v280.toNat
@[reducible] def k0_t5_loop : Scf.Loop 32 :=
  let c0_i32_397 : BitVec 32 := 0#32
  let c8_i32_398 : BitVec 32 := 8#32
  let v289 : BitVec 32 := Scalar.addi c0_i32_397 c8_i32_398
  let c1_i32_399 : BitVec 32 := 1#32
  ⟨c0_i32_397, v289, c1_i32_399⟩
def k0_off9 (k0_t5 : Fin k0_t5_loop.trips) : Fin 2 → Nat :=
  let c0_i32_397 : BitVec 32 := 0#32
  let c1_i32_399 : BitVec 32 := 1#32
  let arg13 : BitVec 32 := Scf.iv c0_i32_397 c1_i32_399 k0_t5
  let c512_i32 : BitVec 32 := 512#32
  let v423 : BitVec 32 := Scalar.muli arg13 c512_i32
  let v424 : Index := Scalar.indexCast v423
  let c0_613 : Index := 0#32
  ![v424.toNat, 0]
def k0_off10 (k0_t5 : Fin k0_t5_loop.trips) : Fin 2 → Nat :=
  let c0_i32_397 : BitVec 32 := 0#32
  let c1_i32_399 : BitVec 32 := 1#32
  let arg13 : BitVec 32 := Scf.iv c0_i32_397 c1_i32_399 k0_t5
  let c512_i32 : BitVec 32 := 512#32
  let v423 : BitVec 32 := Scalar.muli arg13 c512_i32
  let v432 : Index := Scalar.indexCast v423
  let c0_616 : Index := 0#32
  ![v432.toNat, 0]
def k0_dev21 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_455 : BitVec 32 := 1#32
  let v318 : BitVec 32 := Scalar.muli v13 c1_i32_455
  let v319 : BitVec 32 := Scalar.addi c0_i32_456 v318
  v319.toNat
def k0_dev22 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_467 : BitVec 32 := 1#32
  let v328 : BitVec 32 := Scalar.muli v25 c1_i32_467
  let v329 : BitVec 32 := Scalar.addi c0_i32_468 v328
  v329.toNat
@[reducible] def k0_t6_loop : Scf.Loop 32 :=
  let c0_i32_475 : BitVec 32 := 0#32
  let c8_i32_476 : BitVec 32 := 8#32
  let v338 : BitVec 32 := Scalar.addi c0_i32_475 c8_i32_476
  let c1_i32_477 : BitVec 32 := 1#32
  ⟨c0_i32_475, v338, c1_i32_477⟩
def k0_off11 (k0_t6 : Fin k0_t6_loop.trips) : Fin 2 → Nat :=
  let c0_i32_475 : BitVec 32 := 0#32
  let c1_i32_477 : BitVec 32 := 1#32
  let arg13 : BitVec 32 := Scf.iv c0_i32_475 c1_i32_477 k0_t6
  let c512_i32 : BitVec 32 := 512#32
  let v423 : BitVec 32 := Scalar.muli arg13 c512_i32
  let v424 : Index := Scalar.indexCast v423
  let c0_613 : Index := 0#32
  ![v424.toNat, 0]
def k0_off12 (k0_t6 : Fin k0_t6_loop.trips) : Fin 2 → Nat :=
  let c0_i32_475 : BitVec 32 := 0#32
  let c1_i32_477 : BitVec 32 := 1#32
  let arg13 : BitVec 32 := Scf.iv c0_i32_475 c1_i32_477 k0_t6
  let c512_i32 : BitVec 32 := 512#32
  let v423 : BitVec 32 := Scalar.muli arg13 c512_i32
  let v432 : Index := Scalar.indexCast v423
  let c0_616 : Index := 0#32
  ![v432.toNat, 0]
def k0_dev23 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_533 : BitVec 32 := 1#32
  let v367 : BitVec 32 := Scalar.muli v13 c1_i32_533
  let v368 : BitVec 32 := Scalar.addi c0_i32_534 v367
  v368.toNat
def k0_dev24 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_6 : BitVec 32 := 8#32
  let v14 : BitVec 32 := Scalar.addi v2 c8_i32_6
  let c1_i32_7 : BitVec 32 := 1#32
  let v15 : BitVec 32 := Scalar.subi v14 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_545 : BitVec 32 := 1#32
  let v377 : BitVec 32 := Scalar.muli v25 c1_i32_545
  let v378 : BitVec 32 := Scalar.addi c0_i32_546 v377
  v378.toNat
@[reducible] def k0_t7_loop : Scf.Loop 32 :=
  let c0_i32_553 : BitVec 32 := 0#32
  let c8_i32_554 : BitVec 32 := 8#32
  let v387 : BitVec 32 := Scalar.addi c0_i32_553 c8_i32_554
  let c1_i32_555 : BitVec 32 := 1#32
  ⟨c0_i32_553, v387, c1_i32_555⟩
def k0_off13 (k0_t7 : Fin k0_t7_loop.trips) : Fin 2 → Nat :=
  let c0_i32_553 : BitVec 32 := 0#32
  let c1_i32_555 : BitVec 32 := 1#32
  let arg13 : BitVec 32 := Scf.iv c0_i32_553 c1_i32_555 k0_t7
  let c512_i32 : BitVec 32 := 512#32
  let v423 : BitVec 32 := Scalar.muli arg13 c512_i32
  let v424 : Index := Scalar.indexCast v423
  let c0_613 : Index := 0#32
  ![v424.toNat, 0]
def k0_off14 (k0_t7 : Fin k0_t7_loop.trips) : Fin 2 → Nat :=
  let c0_i32_553 : BitVec 32 := 0#32
  let c1_i32_555 : BitVec 32 := 1#32
  let arg13 : BitVec 32 := Scf.iv c0_i32_553 c1_i32_555 k0_t7
  let c512_i32 : BitVec 32 := 512#32
  let v423 : BitVec 32 := Scalar.muli arg13 c512_i32
  let v432 : Index := Scalar.indexCast v423
  let c0_616 : Index := 0#32
  ![v432.toNat, 0]
@[reducible] def k0_t8_loop : Scf.Loop 32 :=
  let c0_i32_603 : BitVec 32 := 0#32
  let c8_i32_604 : BitVec 32 := 8#32
  let v416 : BitVec 32 := Scalar.addi c0_i32_603 c8_i32_604
  let c1_i32_605 : BitVec 32 := 1#32
  ⟨c0_i32_603, v416, c1_i32_605⟩
def k0_off15 (k0_t8 : Fin k0_t8_loop.trips) : Fin 2 → Nat :=
  let c0_i32_603 : BitVec 32 := 0#32
  let c1_i32_605 : BitVec 32 := 1#32
  let arg13 : BitVec 32 := Scf.iv c0_i32_603 c1_i32_605 k0_t8
  let c512_i32 : BitVec 32 := 512#32
  let v423 : BitVec 32 := Scalar.muli arg13 c512_i32
  let v424 : Index := Scalar.indexCast v423
  let c0_613 : Index := 0#32
  ![v424.toNat, 0]
def k0_off16 (k0_t8 : Fin k0_t8_loop.trips) : Fin 2 → Nat :=
  let c0_i32_603 : BitVec 32 := 0#32
  let c1_i32_605 : BitVec 32 := 1#32
  let arg13 : BitVec 32 := Scf.iv c0_i32_603 c1_i32_605 k0_t8
  let c512_i32 : BitVec 32 := 512#32
  let v423 : BitVec 32 := Scalar.muli arg13 c512_i32
  let v432 : Index := Scalar.indexCast v423
  let c0_616 : Index := 0#32
  ![v432.toNat, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x256 : Shape := ⟨2, ![32768, 256]⟩
abbrev S256x32768 : Shape := ⟨2, ![256, 32768]⟩
abbrev S32768x32768 : Shape := ⟨2, ![32768, 32768]⟩
abbrev S_ : Shape := ⟨0, ![]⟩
abbrev S32768 : Shape := ⟨1, ![32768]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S256x32768, .f32⟩
  | .hbm, ⟨7, _⟩ => ⟨S32768x32768, .f32⟩
  | .hbm, ⟨8, _⟩ => ⟨S_, .f32⟩
  | .hbm, ⟨9, _⟩ => ⟨S_, .f32⟩
  | .hbm, ⟨10, _⟩ => ⟨S32768x32768, .f32⟩
  | .hbm, ⟨11, _⟩ => ⟨S32768x32768, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x32768, .f32⟩
  | .hbm, ⟨16, _⟩ => ⟨S32768x32768, .f32⟩
  | .hbm, ⟨17, _⟩ => ⟨S32768x32768, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x32768, .f32⟩
  | .hbm, ⟨22, _⟩ => ⟨S32768x32768, .f32⟩
  | .hbm, ⟨23, _⟩ => ⟨S32768x256, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Ideal.Protocol.lean ====
/-
# The exchange among the eight devices, as a schedule

Eight devices stand in a ring. Device `c` cuts its keys and values in two halves: the first half travels round the
ring to the right (direction `false`, buffer `kva`), the second to the left (direction `true`, buffer `kvb`). Each
buffer has four slots; at step `h` (`h = 0, …, 7`) a device computes with slot `h % 4` of both buffers, which holds
the half of the device `h` places back along that direction, and for `h < 7` sends it on into slot `(h + 1) % 4` of
its neighbour. The semaphores, and what a wait on each brings:

* the barrier: one unit from either neighbour. The neighbour to which `c` sends in direction `d` hands over its
  slots 1, 2, 3 of buffer `d`: nothing is in them yet.
* send `d s` (four per direction): the transfer's own completion on the sender. It gives back the share of the
  source slot that the transfer was reading. Step `h` uses cell `h % 4` in round `h / 4`.
* receive `d s`: the landing of the neighbour's transfer of step `h` on cell `(h + 1) % 4` in round `h / 4`. It
  brings the slot with the half for step `h + 1`, and, for `h = 1, …, 4`, the sender's own slot `h - 1` of the
  OTHER buffer, with which the sender has finished: the receiver sends into it at step `h + 2`.
* credit `d`: four units, one per step `0, …, 3`, waited for one by one before the sends of steps `3, …, 6`. They
  carry nothing: the freed slot has already come with the data of the other direction.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's component and the exchange's, whose duties are numbered below four. -/
abbrev UU : Type := UR sig nD τ × URounds (GSem nD τ sig) (Fin 4)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 4)) (MT nD τ sig ℕ (Elt F) ℕ UU ℕ) := embR

variable (m : (ℓ : Loc nD τ sig) → Buf (Elt F) ℓ) (ρ : Dev nD → PrngReg)

/-- The machine as launched: memory `m`, every counter at zero. -/
def s₀ : MemSt nD τ sig (Elt F) := ⟨m, fun _ => 0, ρ⟩

/-! ## The ring -/

/-- The neighbour to which a device sends in direction `d`: the next device for `false`, the one before for `true`. -/
def nb (d : Bool) (c : Dev nD) : Dev nD := ⟨(c.val + if d then 7 else 1) % 8, Nat.mod_lt _ (by decide)⟩

theorem nb_nb (d : Bool) (c : Dev nD) : nb d (nb (!d) c) = c := by revert d c; decide
theorem nb_nb' (d : Bool) (c : Dev nD) : nb (!d) (nb d c) = c := by revert d c; decide

/-- A direction's step as a permutation of the devices. -/
def step (d : Bool) : Dev nD ≃ Dev nD := ⟨nb d, nb (!d), nb_nb' d, nb_nb d⟩

/-- The device whose half is in use on `c` at step `h`: `h` places back along the direction. -/
def org (d : Bool) : Dev nD → ℕ → Dev nD
  | c, 0 => c
  | c, h + 1 => org d (nb (!d) c) h

/-- What `c` sends at step `h` is what its neighbour uses at step `h + 1`. -/
theorem org_nb (d : Bool) (c : Dev nD) (h : ℕ) : org d (nb d c) (h + 1) = org d c h := by
  show org d (nb (!d) (nb d c)) h = org d c h; rw [nb_nb']

/-- The slot in use at step `h`. -/
def sl (h : ℕ) : Fin 4 := ⟨h % 4, Nat.mod_lt _ (by decide)⟩

/-! ## Buffers, slots, cells -/

/-- Direction `d`'s buffer of four slots. -/
abbrev kvM : Bool → Memref sig .tc .vmem S4x2x2048x256 .bf16
  | false => Memref.whole cc0_scratch0
  | true => Memref.whole cc0_scratch1

theorem slot_inb (s : Fin 4) : ∀ a, (![s.val, 0, 0, 0] : Fin 4 → ℕ) a + S1x2x2048x256.size a ≤ S4x2x2048x256.size a := by
  revert s; decide

/-- Slot `s`'s rectangle in its buffer. -/
abbrev slotR (s : Fin 4) : Rect S4x2x2048x256 := Rect.unit (s := S4x2x2048x256) ![s.val, 0, 0, 0] S1x2x2048x256.size (slot_inb s)

/-- Slot `s` of direction `d`'s buffer: keys and values of one half. -/
abbrev slotM (d : Bool) (s : Fin 4) : Memref sig .tc .vmem S2x2048x256 .bf16 :=
  ((kvM d).slice (slotR s) (fun _ => rfl)).squeeze S2x2048x256 squeezes_S1x2x2048x256_S2x2048x256

/-- The exchange's semaphores on one device. -/
inductive Role where
  | bar
  | cr (d : Bool)
  | snd (d : Bool) (s : Fin 4)
  | rcv (d : Bool) (s : Fin 4)
deriving DecidableEq, Fintype

/-- The barrier semaphore. -/
abbrev barS : Sem sig := (SemArray.scalar (sig.barrier 0 rfl) : Sems sig S_).sem

/-- Where each is among the device's semaphores. -/
def sem : Role → SemLoc sig
  | .bar => .reg barS
  | .cr false => .reg (cc0_scratch7 : Sems sig S_).sem
  | .cr true => .reg (cc0_scratch8 : Sems sig S_).sem
  | .snd d s => .dma ⟨s.val + (if d then 12 else 4), by have := s.isLt; show _ < 20; split <;> omega⟩
  | .rcv d s => .dma ⟨s.val + (if d then 16 else 8), by have := s.isLt; show _ < 20; split <;> omega⟩

/-- Which of the exchange's semaphores a semaphore is; `none` for the staging ones. -/
def role : SemLoc sig → Option Role
  | .reg q => if q.val = 0 then some (.cr false) else if q.val = 1 then some (.cr true) else if q.val = 2 then some .bar else none
  | .dma q => if q.val < 4 then none else if q.val < 8 then some (.snd false (sl q.val)) else if q.val < 12 then some (.rcv false (sl q.val))
      else if q.val < 16 then some (.snd true (sl q.val)) else some (.rcv true (sl q.val))

theorem role_sem (k : Role) : role (sem k) = some k := by revert k; decide +kernel
theorem sem_injective : Function.Injective sem := fun a b h => by
  have := role_sem a; rw [h, role_sem] at this; exact (Option.some.inj this).symm

abbrev cell (c : Dev nD) (k : Role) : GSem nD τ sig := ((c : Thread nD τ), sem k)

/-- What a transfer of one slot credits. -/
abbrev N : ℕ := (slotM false 0).view.dmaCredit
theorem N_pos : 0 < N := View.dmaCredit_pos _ (by decide)
theorem credit_slot (d : Bool) (s : Fin 4) : (slotM d s).view.dmaCredit = N := by cases d <;> rfl

/-! ## Contents -/

/-- Device `c`'s keys and values as staged. -/
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))
def qstg (c : Dev nD) : (cc0_stg0_0 : Ref sig .tc).ty.Contents (Elt F) :=
  (win0_0.blk (0 : Fin 1)).view.read (Elt F) ((s₀ m ρ).mem ((c : Thread nD τ).loc main_arg0))

/-- Row `off + r`, column `x` of a device's whole block. -/
def ix2 (off : ℕ) (hoff : off ≤ 2048) (r : Fin 2048) (x : Fin 256) : S4096x256.Idx := fun a => match a with
  | ⟨0, _⟩ => (⟨off + r.val, by have := r.isLt; omega⟩ : Fin 4096)
  | ⟨1, _⟩ => x

/-- The row at which direction `d`'s half begins. -/
def half (d : Bool) : ℕ := if d then 2048 else 0
theorem half_le (d : Bool) : half d ≤ 2048 := by cases d <;> decide

/-- Direction `d`'s half of a block `x`. -/
def halfOf (d : Bool) (x : Vec F S4096x256 .bf16) : Vec F S2048x256 .bf16 := fun i => x (ix2 (half d) (half_le d) (i 0) (i 1))

/-- A slot's contents: the half of the keys, then the half of the values. -/
def pair (k v : Vec F S2048x256 .bf16) : Vec F S2x2048x256 .bf16 := fun i =>
  if (i 0).val = 0 then k (fun a => match a with | ⟨0, _⟩ => i 1 | ⟨1, _⟩ => i 2)
  else v (fun a => match a with | ⟨0, _⟩ => i 1 | ⟨1, _⟩ => i 2)

/-- What slot `h % 4` of direction `d` holds on `c` at step `h`. -/
def slotV (d : Bool) (c : Dev nD) (h : ℕ) : Vec F S2x2048x256 .bf16 :=
  pair (halfOf d (kstg m ρ (org d c h))) (halfOf d (vstg m ρ (org d c h)))

theorem slotV_nb (d : Bool) (c : Dev nD) (h : ℕ) : slotV m ρ d (nb d c) (h + 1) = slotV m ρ d c h := by
  unfold slotV; rw [org_nb]

/-- Slot `s` of direction `d` on `c`, at contents `x`, at share `q`; -/
def slotP (c : Dev nD) (d : Bool) (s : Fin 4) (q : PosShare TreeShare) (x : Vec F S2x2048x256 .bf16) : sProp 𝕄 :=
  owns (c : Thread nD τ) (slotM d s) q x
/-- whole, at any contents. -/
def slotE (c : Dev nD) (d : Bool) (s : Fin 4) : sProp 𝕄 := iprop(∃ x, slotP (F := F) c d s fullShare x)

instance slotP_storable (c : Dev nD) (d s q x) : BI.Storable (upEmb : UEmb _ 𝕄) (slotP (F := F) c d s q x) := by unfold slotP; infer_instance
instance slotE_storable (c : Dev nD) (d s) : BI.Storable (upEmb : UEmb _ 𝕄) (slotE (F := F) c d s) := by unfold slotE; infer_instance

/-! ## The schedule -/

/-- The barrier unit of `c`'s neighbour in direction `d`: its slots 1, 2, 3. -/
def barPay (c : Dev nD) (d : Bool) : sProp 𝕄 :=
  iprop(slotE (F := F) (nb d c) d 1 ∗ slotE (F := F) (nb d c) d 2 ∗ slotE (F := F) (nb d c) d 3)

/-- What device `e` adds to its transfer of step `h` in direction `d`: at steps 1 to 4 the slot of the other buffer
    used at step `h - 1`, and that its landing cell for the next data into step `h`'s slot is in round 1. -/
def gift (e : Dev nD) (d : Bool) (h : ℕ) : sProp 𝕄 :=
  if 1 ≤ h ∧ h ≤ 4 then iprop(slotE (F := F) e (!d) (sl (h - 1)) ∗ reached ER (cell e (.rcv (!d) (sl h))) 1) else iprop(emp)

def rcvPay (c : Dev nD) (d : Bool) (h : ℕ) : sProp 𝕄 :=
  iprop(slotP c d (sl (h + 1)) fullShare (slotV m ρ d c (h + 1)) ∗ gift (F := F) (nb (!d) c) d h)

def sndPay (c : Dev nD) (d : Bool) (h : ℕ) : sProp 𝕄 := slotP c d (sl h) fullShare.left (slotV m ρ d c h)

instance barPay_storable (c : Dev nD) (d) : BI.Storable (upEmb : UEmb _ 𝕄) (barPay (F := F) c d) := by unfold barPay; infer_instance
instance gift_storable (c : Dev nD) (d h) : BI.Storable (upEmb : UEmb _ 𝕄) (gift (F := F) c d h) := by
  unfold gift; split <;> infer_instance
instance rcvPay_storable (c : Dev nD) (d h) : BI.Storable (upEmb : UEmb _ 𝕄) (rcvPay (F := F) m ρ c d h) := by unfold rcvPay; infer_instance
instance sndPay_storable (c : Dev nD) (d h) : BI.Storable (upEmb : UEmb _ 𝕄) (sndPay (F := F) m ρ c d h) := by unfold sndPay; infer_instance

/-- The step whose data cell `.snd d s` serves in round `r`; -/
abbrev sndStep (s : Fin 4) (r : ℕ) : ℕ := s.val + 4 * r
/-- and cell `.rcv d s`. -/
abbrev rcvStep (s : Fin 4) (r : ℕ) : ℕ := (s.val + 3) % 4 + 4 * r

/-- The barrier's duty of direction `d`. -/
def bd (d : Bool) : Fin 4 := if d then 1 else 0

def dutiesOf : Role → ℕ → Finset (Fin 4)
  | .bar, r => if r = 0 then {0, 1} else ∅
  | .cr _, r => if r = 0 then Finset.univ else ∅
  | .snd _ s, r => if sndStep s r ≤ 6 then {0} else ∅
  | .rcv _ s, r => if rcvStep s r ≤ 6 then {0} else ∅

def amountOf : Role → ℕ
  | .bar => 1
  | .cr _ => 1
  | .snd _ _ => N
  | .rcv _ _ => N

def payOf (c : Dev nD) : Role → ℕ → Fin 4 → sProp 𝕄
  | .bar, _, k => barPay c (k = 1)
  | .cr _, _, _ => iprop(emp)
  | .snd d s, r, _ => sndPay m ρ c d (sndStep s r)
  | .rcv d s, r, _ => rcvPay m ρ c d (rcvStep s r)

/-- The schedule: the duties of each cell of each device's TensorCore. -/
def Rd : Rounds.Schedule (GSem nD τ sig) (Fin 4) 𝕄 where
  duties g r := if g.1.2 = .tc then (role g.2).elim ∅ (dutiesOf · r) else ∅
  amount g _ _ := (role g.2).elim 1 amountOf
  payload g r k := (role g.2).elim iprop(emp) fun x => payOf m ρ g.1.1 x r k
  amount_pos g _ _ _ := by
    rcases role g.2 with _ | (_ | _ | _ | _)
    · exact Nat.one_pos
    · exact Nat.one_pos
    · exact Nat.one_pos
    · exact N_pos
    · exact N_pos

instance Rd_storable (g : GSem nD τ sig) (r : ℕ) (k : Fin 4) : BI.Storable (upEmb : UEmb _ 𝕄) ((Rd (F := F) m ρ).payload g r k) := by
  show BI.Storable upEmb ((role g.2).elim iprop(emp) fun x => payOf m ρ g.1.1 x r k)
  rcases role g.2 with _ | (_ | _ | _ | _) <;> dsimp only [Option.elim, payOf] <;> infer_instance

/-! ## The schedule's tables -/

section Tables

variable (c : Dev nD) (d : Bool) (k : Role)

theorem duties_cell (r : ℕ) : (Rd (F := F) m ρ).duties (cell c k) r = dutiesOf k r := by
  dsimp only [Rd]; rw [if_pos rfl, role_sem]; rfl
theorem amount_cell (r : ℕ) (j : Fin 4) : (Rd (F := F) m ρ).amount (cell c k) r j = amountOf k := by
  show (role (sem k)).elim _ _ = _; rw [role_sem]; rfl
theorem payload_cell (r : ℕ) (j : Fin 4) : (Rd (F := F) m ρ).payload (cell c k) r j = payOf m ρ c k r j := by
  show (role (sem k)).elim _ _ = _; rw [role_sem]; rfl

theorem expect_cell (r : ℕ) : (Rd (F := F) m ρ).expect (cell c k) r = (dutiesOf k r).card * amountOf k := by
  unfold Schedule.expect Schedule.amountOf
  rw [duties_cell, Finset.sum_congr rfl (fun j _ => amount_cell m ρ c k r j), Finset.sum_const, smul_eq_mul]

theorem sndStep_sl (h : ℕ) : sndStep (sl h) (h / 4) = h := by show h % 4 + 4 * (h / 4) = h; omega
theorem rcvStep_sl (h : ℕ) : rcvStep (sl (h + 1)) (h / 4) = h := by show ((h + 1) % 4 + 3) % 4 + 4 * (h / 4) = h; omega

theorem duties_snd {h : ℕ} (hh : h ≤ 6) : dutiesOf (.snd d (sl h)) (h / 4) = {0} := by
  show (if sndStep (sl h) (h / 4) ≤ 6 then _ else _) = _
  rw [sndStep_sl, if_pos hh]
theorem duties_rcv {h : ℕ} (hh : h ≤ 6) : dutiesOf (.rcv d (sl (h + 1))) (h / 4) = {0} := by
  show (if rcvStep (sl (h + 1)) (h / 4) ≤ 6 then _ else _) = _
  rw [rcvStep_sl, if_pos hh]

theorem payload_snd (h : ℕ) (j : Fin 4) : (Rd (F := F) m ρ).payload (cell c (.snd d (sl h))) (h / 4) j = sndPay m ρ c d h := by
  rw [payload_cell]; show sndPay m ρ c d (sndStep (sl h) (h / 4)) = _; rw [sndStep_sl]
theorem payload_rcv (h : ℕ) (j : Fin 4) : (Rd (F := F) m ρ).payload (cell c (.rcv d (sl (h + 1)))) (h / 4) j = rcvPay m ρ c d h := by
  rw [payload_cell]; show rcvPay m ρ c d (rcvStep (sl (h + 1)) (h / 4)) = _; rw [rcvStep_sl]
theorem payload_bar (r : ℕ) : (Rd (F := F) m ρ).payload (cell c .bar) r (bd d) = barPay c d := by
  rw [payload_cell]; cases d <;> rfl
theorem payload_cr (r : ℕ) (j : Fin 4) : (Rd (F := F) m ρ).payload (cell c (.cr d)) r j = iprop(emp) := by
  rw [payload_cell]; rfl

end Tables

/-! ## What a device owes at launch, and the levels -/

/-- One thing a device owes: a barrier unit, a transfer's landing, a credit unit. -/
inductive Due where
  | bar (d : Bool)
  | snd (d : Bool) (h : ℕ)
  | cr (d : Bool) (i : ℕ)

/-- The device to which `c` owes it, when a payment for direction `d` goes back along `d` or along it, -/
def Due.to (c : Dev nD) : Due → Dev nD
  | .bar d => nb (!d) c
  | .snd d _ => nb d c
  | .cr d _ => nb (!d) c
/-- the semaphore there, -/
def Due.role : Due → Role
  | .bar _ => .bar
  | .snd d h => .rcv d (sl (h + 1))
  | .cr d _ => .cr d
/-- the level at which the payee waits for it, -/
def Due.lvl : Due → ℕ
  | .bar _ => 1
  | .snd _ h => 2 * h + 2
  | .cr _ i => 2 * i + 3
/-- and how much. -/
def Due.amt : Due → ℕ
  | .snd _ _ => N
  | _ => 1

/-- What `c` owes, listed in the order in which it pays. -/
def owing (c : Dev nD) : List Due → CellTallies nD τ sig ℕ
  | [] => 0
  | x :: l => owing c l + tallyAt (cell (x.to c) x.role) x.lvl x.amt

/-- Everything a device owes at launch. -/
abbrev dues : List Due :=
  [.bar false, .bar true,
    .snd false 0, .snd true 0, .cr false 0, .cr true 0,
    .snd false 1, .snd true 1, .cr false 1, .cr true 1,
    .snd false 2, .snd true 2, .cr false 2, .cr true 2,
    .snd false 3, .snd true 3, .cr false 3, .cr true 3,
    .snd false 4, .snd true 4, .snd false 5, .snd true 5, .snd false 6, .snd true 6]

def O₀ (c : Dev nD) : CellTallies nD τ sig ℕ := owing c dues

/-- A wait's index is its level. -/
def L (g : GSem nD τ sig) : Finset ℕ := if g.1.2 = .tc then Finset.range 32 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 32 := if_pos rfl

theorem owing_pos {c : Dev nD} {l : List Due} {g : GSem nD τ sig} {i : ℕ} (h : 0 < owing c l g i) :
    ∃ x ∈ l, g = cell (x.to c) x.role ∧ i = x.lvl := by
  induction l with
  | nil => exact absurd h (Nat.lt_irrefl 0)
  | cons x l ih =>
    rcases Pipeline.add_pos_cases h with h | h
    · obtain ⟨y, hy, e⟩ := ih h; exact ⟨y, List.mem_cons_of_mem _ hy, e⟩
    · exact ⟨x, List.mem_cons_self .., Pipeline.tallyAt_pos h⟩

/-- A wait at a level below everything still owed is allowed. -/
theorem mayWait (c : Dev nD) (sm : SemLoc sig) (ι : ℕ) (l : List Due) (hι : ι < 32) (hl : ∀ x ∈ l, ι < x.lvl ∧ x.lvl < 32) :
    (levAts L lv : sProp 𝕄) ⊢ MayWait (c : Thread nD τ) sm ι (owing c l) :=
  Pipeline.mayWait_of_levAts (by rw [L_tc]; exact Finset.mem_range.mpr hι) fun g i hg => by
    obtain ⟨x, hx, rfl, rfl⟩ := owing_pos hg
    rw [L_tc]
    exact ⟨Finset.mem_range.mpr (hl x hx).2, (hl x hx).1⟩

/-- The waits for what the devices owe, on a device's own cells. -/
def duesCred (c : Dev nD) : List Due → sProp 𝕄
  | [] => iprop(emp)
  | x :: l => iprop(duesCred c l ∗ cred (tallyAt (cell c x.role) x.lvl x.amt))

/-- The launch deals each device the credit for what the others owe it. -/
theorem launchCred_owing (c : Dev nD) (l : List Due) :
    (Pipeline.launchCred (fun e => owing e l) c : sProp 𝕄) ⊢ duesCred c l := by
  induction l with
  | nil => exact Entails.of_eq (Pipeline.launchCred_zero c)
  | cons x l ih =>
    refine (Entails.of_eq (Pipeline.launchCred_add (fun e => owing e l) (fun e => tallyAt (cell (x.to e) x.role) x.lvl x.amt) c)).trans ?_
    refine BI.sep_mono ih ?_
    cases x with
    | bar d => exact Pipeline.launchCred_tallyAt (sem .bar) (nb (!d)) (nb d) (nb_nb' d) (nb_nb d) _ _ c
    | snd d h => exact Pipeline.launchCred_tallyAt (sem (.rcv d (sl (h + 1)))) (nb d) (nb (!d)) (nb_nb d) (nb_nb' d) _ _ c
    | cr d i => exact Pipeline.launchCred_tallyAt (sem (.cr d)) (nb (!d)) (nb d) (nb_nb' d) (nb_nb d) _ _ c

end Cert.KernelIdeal.Ring
-- ==== Proof.Ideal.Steps.lean ====
/-
# One lemma per step of the exchange

Each lemma runs one memory operation of the exchange at the head of a program, on a device `c` and at a step `h` left
open, from what the schedule says: a transfer, the wait for its completion, the wait for the neighbour's transfer,
a credit unit, the wait for one, the barrier.
-/
module

public import proofs.«01_k».proof.Proof.Ideal.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## What every device knows -/

/-- The invariants of all cells of all devices (at names `K`), that each is in round 0 at least, and the levels. -/
def records (K : Dev nD × Role → ℕ) : sProp 𝕄 :=
  iprop((bigSep Finset.univ fun x : Dev nD × Role => cellInv ER (Rd m ρ) (K x) (cell x.1 x.2))
    ∗ (bigSep Finset.univ fun x : Dev nD × Role => reached ER (cell x.1 x.2) 0) ∗ levAts L lv)

instance records_persistent (K : Dev nD × Role → ℕ) : BI.Persistent (records m ρ K) := by unfold records; infer_instance

theorem records_inv (K : Dev nD × Role → ℕ) (c : Dev nD) (k : Role) :
    records m ρ K ⊢ cellInv ER (Rd m ρ) (K (c, k)) (cell c k) := by
  unfold records
  iintro ⟨H, -, -⟩
  iapply (show (bigSep Finset.univ fun x : Dev nD × Role => (cellInv ER (Rd m ρ) (K x) (cell x.1 x.2) : sProp 𝕄)) ⊢ _ from
    bigSep_elim (Finset.mem_univ (c, k)))
  iexact H

theorem records_reached (K : Dev nD × Role → ℕ) (c : Dev nD) (k : Role) :
    records m ρ K ⊢ reached ER (cell c k) 0 := by
  unfold records
  iintro ⟨-, H, -⟩
  iapply (show (bigSep Finset.univ fun x : Dev nD × Role => (reached ER (cell x.1 x.2) 0 : sProp 𝕄)) ⊢ _ from
    bigSep_elim (Finset.mem_univ (c, k)))
  iexact H

theorem records_lev (K : Dev nD × Role → ℕ) : records m ρ K ⊢ (levAts L lv : sProp 𝕄) := by
  unfold records; iintro ⟨-, -, H⟩; iexact H

/-- What the device still owes, whatever waits it has recorded. -/
def owesE (c : Dev nD) (l : List Due) : sProp 𝕄 := iprop(∃ W, owes (c : Thread nD τ) (owing c l) W)

/-! ## Shares of a slot -/

theorem slot_split (c : Dev nD) (d : Bool) (s : Fin 4) (x : Vec F S2x2048x256 .bf16) :
    slotP c d s fullShare x ⊢ iprop(slotP c d s fullShare.left x ∗ slotP c d s fullShare.right x) := by
  unfold slotP owns
  iintro ⟨%f, %hf, H⟩
  ihave H' := (pointsTo_share (PosShare.mem_left_op_right fullShare)).1 $$ H
  icases H' with ⟨H1, H2⟩
  isplitl [H1]
  · iexists f; isplitr; · (ipureintro; exact hf)
    iexact H1
  · iexists f; isplitr; · (ipureintro; exact hf)
    iexact H2

theorem slot_join (c : Dev nD) (d : Bool) (s : Fin 4) (x : Vec F S2x2048x256 .bf16) :
    iprop(slotP c d s fullShare.left x ∗ slotP c d s fullShare.right x) ⊢ slotP c d s fullShare x := by
  unfold slotP owns
  iintro ⟨⟨%f, %hf, H1⟩, %g, %hg, H2⟩
  have hfg : ∀ i ∈ (slotM d s).view.set, g i = f i := fun i hi => by
    obtain ⟨y, -, rfl⟩ := Finset.mem_map.mp hi
    have := congrFun (hg.trans hf.symm) y
    rw [View.read_apply, View.read_apply] at this
    exact (cast_inj _).1 this
  iexists f; isplitr; · (ipureintro; exact hf)
  iapply (pointsTo_share (PosShare.mem_left_op_right fullShare)).2
  isplitl [H1]; · iexact H1
  iapply (Entails.of_eq (pointsTo_congr hfg)); iexact H2

/-! ## A transfer -/

section Wp

variable (K : Dev nD × Role → ℕ) (c : Dev nD)

/-- The send of step `h` in direction `d`: half the share of the slot in use goes with it. -/
theorem wp_send {α : Type} {Q : α → sProp 𝕄} {k : PUnit → Prog (TpuEff nD τ sig (Elt F) Λ₀ .tc) α}
    (d : Bool) (h : ℕ) (hh : h ≤ 6) (n : Dev nD) (hn : n = nb d c) (sS sR : SemLoc sig)
    (hsS : sS = sem (.snd d (sl h))) (hsR : sR = sem (.rcv d (sl (h + 1)))) (l : List Due)
    {hsc : (slotM d (sl (h + 1)) : Memref sig (Dev.tc n : Thread nD τ).2.kind .vmem S2x2048x256 .bf16).view.ref.isScScratch = false}
    {hsrc : (slotM d (sl h)).view.WordExact} {hdst : (slotM d (sl (h + 1))).view.WordExact}
    {hsem : DmaTarget.Typed .vmem sR (.remote (Dev.tc n : Thread nD τ) (slotM d (sl (h + 1))) sS hsc)} :
    iprop(records m ρ K ∗ slotP c d (sl h) fullShare (slotV m ρ d c h) ∗ slotE (F := F) (nb d c) d (sl (h + 1)) ∗ gift (F := F) c d h
        ∗ owesE c (.snd d h :: l)
        ∗ dutyTok ER (cell c (.snd d (sl h))) (h / 4) 0 ∗ reached ER (cell c (.snd d (sl h))) (h / 4)
        ∗ dutyTok ER (cell (nb d c) (.rcv d (sl (h + 1)))) (h / 4) 0 ∗ reached ER (cell (nb d c) (.rcv d (sl (h + 1)))) (h / 4))
      ⊢ iprop(((cred (tallyAt (cell c (.snd d (sl h))) 0 N) ∗ slotP c d (sl h) fullShare.right (slotV m ρ d c h) ∗ owesE c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM d (sl h)) (.remote (Dev.tc n : Thread nD τ) (slotM d (sl (h + 1))) sS hsc) sR hsrc hdst hsem) k) Q) := by
  subst hn hsS hsR
  unfold owesE slotE
  iintro ⟨#HR, Hs, ⟨%y, Hd⟩, Hg, ⟨%W, HO⟩, Ht1, #Hr1, Ht2, #Hr2⟩ Hk
  ihave Hs' := (slot_split c d (sl h) _) $$ Hs
  unfold slotP owns
  icases Hs' with ⟨⟨%f, %hf, Hl⟩, Hr⟩
  icases Hd with ⟨%fd, -, Hd⟩
  iapply (Rounds.wp_send_pointsTo_with 𝒱₀ ER (Rd m ρ) (c : Thread nD τ) none (κ₁ := K (c, .snd d (sl h))) (κ₂ := K (nb d c, .rcv d (sl (h + 1))))
    (r₁ := h / 4) (r₂ := h / 4) (d₁ := 0) (d₂ := 0) (fs := f) (fd := fd) (q := fullShare.left) (F := gift (F := F) c d h)
    (by rw [duties_cell, duties_snd d hh]; exact Finset.mem_singleton_self _)
    (by rw [duties_cell, duties_rcv d hh]; exact Finset.mem_singleton_self _)
    (2 * h + 2) 0 N (by exact credit_slot d (sl (h + 1))) (amount_cell m ρ c _ _ _) (amount_cell m ρ _ _ _ _) (owing c l) rfl (W := W)
    (by
      rw [payload_snd]; unfold sndPay slotP owns
      iintro H; iexists f; isplitr; · (ipureintro; exact hf)
      iexact H)
    (by
      rw [payload_rcv]; unfold rcvPay slotP owns; rw [nb_nb', slotV_nb]
      iintro ⟨H, Hg⟩
      isplitl [H]
      · iexists ((slotM d (sl (h + 1))).view.write (Elt F) fd ((slotM d (sl h)).view.read (Elt F) f) Finset.univ); isplitr
        · ipureintro; exact (View.read_write_univ _ _).trans hf
        iexact H
      iexact Hg)) $$ [Hl Hd Hg HO Ht1 Ht2]
  · isplitr; · iapply (records_inv m ρ K); iexact HR
    isplitr; · iapply (records_inv m ρ K); iexact HR
    isplitl [Hl]; · iexact Hl
    isplitl [Hd Hg]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  isplitl [Hr]; · iexact Hr
  iexists W; iexact HO

/-- The wait for the completion of the transfer of step `h`: the slot in use is whole again. -/
theorem wp_sent {α : Type} {Q : α → sProp 𝕄} {k : PUnit → Prog (TpuEff nD τ sig (Elt F) Λ₀ .tc) α}
    {w : TpuEff nD τ sig (Elt F) Λ₀ .tc PUnit} (d : Bool) (h : ℕ) (hh : h ≤ 6) (l : List Due)
    (hl : ∀ x ∈ l, 0 < x.lvl ∧ x.lvl < 32)
    (hw : ∀ K : PUnit → sProp 𝕄, wpE (defs₀ (F := F)) 𝒱₀ (c : Thread nD τ) none Set.univ w K = waitSpec (c : Thread nD τ) Set.univ (sem (.snd d (sl h))) N K) :
    iprop(records m ρ K ∗ cred (tallyAt (cell c (.snd d (sl h))) 0 N) ∗ owesE c l ∗ atPos ER (cell c (.snd d (sl h))) (h / 4) ∅ 0
        ∗ slotP c d (sl h) fullShare.right (slotV m ρ d c h))
      ⊢ iprop(((owesE c l ∗ atPos ER (cell c (.snd d (sl h))) (h / 4 + 1) ∅ 0 ∗ reached ER (cell c (.snd d (sl h))) (h / 4 + 1)
              ∗ slotP c d (sl h) fullShare (slotV m ρ d c h))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owesE
  iintro ⟨#HR, Hc, ⟨%W, HO⟩, Hat, Hs⟩ Hk
  iapply (Rounds.wp_wait_rest_token 𝒱₀ ER (Rd m ρ) (c : Thread nD τ) none (κ := K (c, .snd d (sl h)))
      hw (Set.mem_univ _) 0 (O := owing c l) (W := W) (R := h / 4) (m := 0) (T := ∅)
      (by rw [Nat.zero_add, expect_cell, duties_snd d hh]; exact (Nat.one_mul _).symm)) $$ [Hc HO Hat]
  · isplitr; · iapply (records_inv m ρ K); iexact HR
    isplitl [Hc]; · iexact Hc
    isplitl [HO]; · iexact HO
    isplitr
    · iapply (mayWait c (sem (.snd d (sl h))) 0 l (by decide) hl); iapply (records_lev m ρ K); iexact HR
    iexact Hat
  iintro ⟨HO, Hat, Hr, Hpay⟩
  ihave Hp := (Entails.of_eq (show bigSep ((Rd (F := F) m ρ).duties (cell c (.snd d (sl h))) (h / 4) \ ∅)
      (fun j => (Rd (F := F) m ρ).payload (cell c (.snd d (sl h))) (h / 4) j) = sndPay m ρ c d h from by
    rw [Finset.sdiff_empty, duties_cell, duties_snd d hh, bigSep_singleton, payload_snd])) $$ Hpay
  iapply Hk
  isplitl [HO]; · iexists _; iexact HO
  isplitl [Hat]; · iexact Hat
  isplitl [Hr]; · iexact Hr
  unfold sndPay
  iapply (slot_join c d (sl h))
  isplitl [Hp]
  · iexact Hp
  iexact Hs

/-- The wait for the neighbour's transfer of step `h`: the slot for step `h + 1`, and what the neighbour adds. -/
theorem wp_received {α : Type} {Q : α → sProp 𝕄} {k : PUnit → Prog (TpuEff nD τ sig (Elt F) Λ₀ .tc) α}
    {w : TpuEff nD τ sig (Elt F) Λ₀ .tc PUnit} (d : Bool) (h : ℕ) (hh : h ≤ 6) (l : List Due)
    (hl : ∀ x ∈ l, 2 * h + 2 < x.lvl ∧ x.lvl < 32)
    (hw : ∀ K : PUnit → sProp 𝕄, wpE (defs₀ (F := F)) 𝒱₀ (c : Thread nD τ) none Set.univ w K
      = waitSpec (c : Thread nD τ) Set.univ (sem (.rcv d (sl (h + 1)))) N K) :
    iprop(records m ρ K ∗ cred (tallyAt (cell c (.rcv d (sl (h + 1)))) (2 * h + 2) N) ∗ owesE c l
        ∗ atPos ER (cell c (.rcv d (sl (h + 1)))) (h / 4) ∅ 0)
      ⊢ iprop(((owesE c l ∗ atPos ER (cell c (.rcv d (sl (h + 1)))) (h / 4 + 1) ∅ 0 ∗ reached ER (cell c (.rcv d (sl (h + 1)))) (h / 4 + 1)
              ∗ slotP c d (sl (h + 1)) fullShare (slotV m ρ d c (h + 1)) ∗ gift (F := F) (nb (!d) c) d h)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owesE
  iintro ⟨#HR, Hc, ⟨%W, HO⟩, Hat⟩ Hk
  iapply (Rounds.wp_wait_rest_token 𝒱₀ ER (Rd m ρ) (c : Thread nD τ) none (κ := K (c, .rcv d (sl (h + 1))))
      hw (Set.mem_univ _) (2 * h + 2) (O := owing c l) (W := W) (R := h / 4) (m := 0) (T := ∅)
      (by rw [Nat.zero_add, expect_cell, duties_rcv d hh]; exact (Nat.one_mul _).symm)) $$ [Hc HO Hat]
  · isplitr; · iapply (records_inv m ρ K); iexact HR
    isplitl [Hc]; · iexact Hc
    isplitl [HO]; · iexact HO
    isplitr
    · iapply (mayWait c (sem (.rcv d (sl (h + 1)))) (2 * h + 2) l (by omega) hl); iapply (records_lev m ρ K); iexact HR
    iexact Hat
  iintro ⟨HO, Hat, Hr, Hpay⟩
  ihave Hp := (Entails.of_eq (show bigSep ((Rd (F := F) m ρ).duties (cell c (.rcv d (sl (h + 1)))) (h / 4) \ ∅)
      (fun j => (Rd (F := F) m ρ).payload (cell c (.rcv d (sl (h + 1)))) (h / 4) j) = rcvPay m ρ c d h from by
    rw [Finset.sdiff_empty, duties_cell, duties_rcv d hh, bigSep_singleton, payload_rcv])) $$ Hpay
  iapply Hk
  isplitl [HO]; · iexists _; iexact HO
  isplitl [Hat]; · iexact Hat
  isplitl [Hr]; · iexact Hr
  unfold rcvPay
  iexact Hp

/-! ## Credits -/

/-- The credit unit of step `i`. -/
theorem wp_credit {α : Type} {Q : α → sProp 𝕄} {k : PUnit → Prog (TpuEff nD τ sig (Elt F) Λ₀ .tc) α}
    (d : Bool) (i : ℕ) (n : Dev nD) (hn : n = nb (!d) c) (s : Sem sig) (hs : SemLoc.reg s = sem (.cr d)) (u : ℕ) (hu : u = 1)
    (l : List Due) :
    iprop(records m ρ K ∗ owesE c (.cr d i :: l) ∗ dutyTok ER (cell (nb (!d) c) (.cr d)) 0 (sl i))
      ⊢ iprop((owesE c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s u) k) Q) := by
  subst hn hu
  unfold owesE
  iintro ⟨#HR, ⟨%W, HO⟩, Ht⟩ Hk
  have hc : (((nb (!d) c : Dev nD) : Thread nD τ), SemLoc.reg s) = cell (nb (!d) c) (.cr d) := by rw [hs]
  iapply (Rounds.wp_signal 𝒱₀ ER (Rd m ρ) (c : Thread nD τ) none (dst := (nb (!d) c : Thread nD τ)) (κ := K (nb (!d) c, .cr d)) (d := sl i) (r := 0)
      (by rw [hc, duties_cell]; exact Finset.mem_univ _) (by rw [hc, amount_cell]; rfl) (2 * i + 3) (owing c l) (by rw [hc])) $$ [HO Ht]
  · rw [hc]
    isplitr; · iapply (records_inv m ρ K); iexact HR
    isplitl [HO]; · iexact HO
    isplitl [Ht]; · iexact Ht
    isplitr; · rw [payload_cr]; iempintro
    iapply (records_reached m ρ K); iexact HR
  iintro HO
  iapply Hk
  iexists W; iexact HO

/-- The position on a credit cell after `i` of its four units. -/
def crPos (c : Dev nD) (d : Bool) (i : ℕ) : sProp 𝕄 := iprop(∃ T, atPos ER (cell c (.cr d)) 0 T i)

/-- The wait for one of the first three credit units; -/
theorem wp_credited {α : Type} {Q : α → sProp 𝕄} {k : PUnit → Prog (TpuEff nD τ sig (Elt F) Λ₀ .tc) α}
    {w : TpuEff nD τ sig (Elt F) Λ₀ .tc PUnit} (d : Bool) (i : ℕ) (hi : i ≤ 2) (l : List Due)
    (hl : ∀ x ∈ l, 2 * i + 3 < x.lvl ∧ x.lvl < 32) (u : ℕ) (hu : u = 1)
    (hw : ∀ K : PUnit → sProp 𝕄, wpE (defs₀ (F := F)) 𝒱₀ (c : Thread nD τ) none Set.univ w K = waitSpec (c : Thread nD τ) Set.univ (sem (.cr d)) u K) :
    iprop(records m ρ K ∗ cred (tallyAt (cell c (.cr d)) (2 * i + 3) 1) ∗ owesE c l ∗ crPos (F := F) c d i)
      ⊢ iprop(((owesE c l ∗ crPos (F := F) c d (i + 1)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hu
  unfold owesE crPos
  iintro ⟨#HR, Hc, ⟨%W, HO⟩, ⟨%T, Hat⟩⟩ Hk
  iapply (Rounds.wp_wait 𝒱₀ ER (Rd m ρ) (c : Thread nD τ) none (κ := K (c, .cr d))
      hw (Set.mem_univ _) (cr := Finsupp.single (2 * i + 3) 1) (O := owing c l) (W := W) {(sem (.cr d), 2 * i + 3)} (R := 0) (m := i) (T := T)
      (by rw [Util.total_single]) (image_single_subset (sem (.cr d)) (2 * i + 3) 1)) $$ [Hc HO Hat]
  · isplitr; · iapply (records_inv m ρ K); iexact HR
    isplitl [Hc]; · iexact Hc
    isplitl [HO]; · iexact HO
    isplitr
    · iapply (mayWait c (sem (.cr d)) (2 * i + 3) l (by omega) hl); iapply (records_lev m ρ K); iexact HR
    iexact Hat
  iintro %S ⟨-, HO, Hat, -⟩
  iapply Hk
  isplitl [HO]; · iexists _; iexact HO
  iexists S; iexact Hat

/-- for the last. -/
theorem wp_credited_last {α : Type} {Q : α → sProp 𝕄} {k : PUnit → Prog (TpuEff nD τ sig (Elt F) Λ₀ .tc) α}
    {w : TpuEff nD τ sig (Elt F) Λ₀ .tc PUnit} (d : Bool) (l : List Due)
    (hl : ∀ x ∈ l, 9 < x.lvl ∧ x.lvl < 32) (u : ℕ) (hu : u = 1)
    (hw : ∀ K : PUnit → sProp 𝕄, wpE (defs₀ (F := F)) 𝒱₀ (c : Thread nD τ) none Set.univ w K = waitSpec (c : Thread nD τ) Set.univ (sem (.cr d)) u K) :
    iprop(records m ρ K ∗ cred (tallyAt (cell c (.cr d)) 9 1) ∗ owesE c l ∗ crPos (F := F) c d 3)
      ⊢ iprop(((owesE c l ∗ atPos ER (cell c (.cr d)) 1 ∅ 0) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hu
  unfold owesE crPos
  iintro ⟨#HR, Hc, ⟨%W, HO⟩, ⟨%T, Hat⟩⟩ Hk
  iapply (Rounds.wp_wait_rest_token 𝒱₀ ER (Rd m ρ) (c : Thread nD τ) none (κ := K (c, .cr d))
      hw (Set.mem_univ _) 9 (O := owing c l) (W := W) (R := 0) (m := 3) (T := T)
      (by rw [expect_cell]; rfl)) $$ [Hc HO Hat]
  · isplitr; · iapply (records_inv m ρ K); iexact HR
    isplitl [Hc]; · iexact Hc
    isplitl [HO]; · iexact HO
    isplitr
    · iapply (mayWait c (sem (.cr d)) 9 l (by decide) hl); iapply (records_lev m ρ K); iexact HR
    iexact Hat
  iintro ⟨HO, Hat, -, -⟩
  iapply Hk
  isplitl [HO]; · iexists _; iexact HO
  iexact Hat

/-! ## The barrier -/

/-- The barrier unit to the neighbour that sends to `c` in direction `d`: `c`'s slots 1, 2, 3 go with it. -/
theorem wp_enter {α : Type} {Q : α → sProp 𝕄} {k : PUnit → Prog (TpuEff nD τ sig (Elt F) Λ₀ .tc) α}
    (d : Bool) (n : Dev nD) (hn : n = nb (!d) c) (s : Sem sig) (hs : SemLoc.reg s = sem .bar) (u : ℕ) (hu : u = 1) (l : List Due) :
    iprop(records m ρ K ∗ owesE c (.bar d :: l) ∗ dutyTok ER (cell (nb (!d) c) .bar) 0 (bd d)
        ∗ slotE (F := F) c d 1 ∗ slotE (F := F) c d 2 ∗ slotE (F := F) c d 3)
      ⊢ iprop((owesE c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s u) k) Q) := by
  subst hn hu
  unfold owesE
  iintro ⟨#HR, ⟨%W, HO⟩, Ht, H⟩ Hk
  have hc : (((nb (!d) c : Dev nD) : Thread nD τ), SemLoc.reg s) = cell (nb (!d) c) .bar := by rw [hs]
  iapply (Rounds.wp_signal 𝒱₀ ER (Rd m ρ) (c : Thread nD τ) none (dst := (nb (!d) c : Thread nD τ)) (κ := K (nb (!d) c, .bar)) (d := bd d) (r := 0)
      (by rw [hc, duties_cell]; cases d <;> decide) (by rw [hc, amount_cell]; rfl) 1 (owing c l) (by rw [hc])) $$ [HO Ht H]
  · rw [hc]
    isplitr; · iapply (records_inv m ρ K); iexact HR
    isplitl [HO]; · iexact HO
    isplitl [Ht]; · iexact Ht
    isplitl [H]; · rw [payload_bar]; unfold barPay; rw [nb_nb]; iexact H
    iapply (records_reached m ρ K); iexact HR
  iintro HO
  iapply Hk
  iexists W; iexact HO

/-- The wait for both neighbours: their free slots. -/
theorem wp_entered {α : Type} {Q : α → sProp 𝕄} {k : PUnit → Prog (TpuEff nD τ sig (Elt F) Λ₀ .tc) α}
    {w : TpuEff nD τ sig (Elt F) Λ₀ .tc PUnit} (l : List Due)
    (hl : ∀ x ∈ l, 1 < x.lvl ∧ x.lvl < 32) (u : ℕ) (hu : u = 2)
    (hw : ∀ K : PUnit → sProp 𝕄, wpE (defs₀ (F := F)) 𝒱₀ (c : Thread nD τ) none Set.univ w K = waitSpec (c : Thread nD τ) Set.univ (sem .bar) u K) :
    iprop(records m ρ K ∗ (cred (tallyAt (cell c .bar) 1 1) ∗ cred (tallyAt (cell c .bar) 1 1)) ∗ owesE c l ∗ atPos ER (cell c .bar) 0 ∅ 0)
      ⊢ iprop(((owesE c l ∗ atPos ER (cell c .bar) 1 ∅ 0 ∗ barPay (F := F) c false ∗ barPay (F := F) c true)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hu
  unfold owesE
  iintro ⟨#HR, Hc, ⟨%W, HO⟩, Hat⟩ Hk
  ihave Hc := (show iprop(cred (tallyAt (cell c .bar) 1 1) ∗ cred (tallyAt (cell c .bar) 1 1)) ⊢ (cred (tallyAt (cell c .bar) 1 2) : sProp 𝕄) from
    ((cred_add _ _).2).trans (Entails.of_eq (congrArg cred (tallyAt_add (cell c .bar) 1 1 1)))) $$ Hc
  iapply (Rounds.wp_wait_rest_token 𝒱₀ ER (Rd m ρ) (c : Thread nD τ) none (κ := K (c, .bar))
      hw (Set.mem_univ _) 1 (O := owing c l) (W := W) (R := 0) (m := 0) (T := ∅)
      (by rw [expect_cell]; rfl)) $$ [Hc HO Hat]
  · isplitr; · iapply (records_inv m ρ K); iexact HR
    isplitl [Hc]; · iexact Hc
    isplitl [HO]; · iexact HO
    isplitr
    · iapply (mayWait c (sem .bar) 1 l (by decide) hl); iapply (records_lev m ρ K); iexact HR
    iexact Hat
  iintro ⟨HO, Hat, -, Hpay⟩
  ihave Hp := (Entails.of_eq (show bigSep ((Rd (F := F) m ρ).duties (cell c .bar) 0 \ ∅) (fun j => (Rd (F := F) m ρ).payload (cell c .bar) 0 j)
      = iprop(barPay c false ∗ barPay c true) from by
    rw [Finset.sdiff_empty, duties_cell, show dutiesOf .bar 0 = {bd false, bd true} from rfl, bigSep_insert (by decide), bigSep_singleton,
      payload_bar, payload_bar]; rfl)) $$ Hpay
  iapply Hk
  isplitl [HO]; · iexists _; iexact HO
  isplitl [Hat]; · iexact Hat
  iexact Hp

end Wp

end Cert.KernelIdeal.Ring
-- ==== Proof.Ideal.Trips.lean ====
/-
# The blocked accumulation of one step

One step of the ring adds, for each of eight blocks of 512 query rows, the two halves' contributions to the numerator
and to the denominator. The eight printed loops differ in the slot they read and in nothing else, so the trip and the
loop are stated once, at any slot.
-/
module

public import proofs.«01_k».proof.Proof.Ideal.Steps
public import Idealize.ShloMosaic.Lib.VecWindow
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

/-! ## Loads and stores of a buffer held by its values -/

section Access

variable (c : Dev nD) {sp : CoreSpace} {sh : Shape} {e : EltTy} (M : Memref sig .tc sp sh e)

/-- A load of a window. -/
theorem wp_read {α : Type} {Q : α → sProp 𝕄} (q : PosShare TreeShare) (x : sh.Idx → Elt F e) {off off' size : Fin sh.rank → ℕ}
    (inb : ∀ a, off a + size a ≤ sh.size a) (h : off = off') (inb' : ∀ a, off' a + size a ≤ sh.size a)
    {hl : M.view.LoadsAt (Rect.unit off size inb).toLoadRect}
    {k : ((Rect.unit off size inb).toLoadRect.shape.Idx → Elt F e) → Prog (TpuEff nD τ sig (Elt F) Λ₀ .tc) α} :
    owns (c : Thread nD τ) M q x
      ⊢ iprop((owns (c : Thread nD τ) M q x -∗ wp frame (wpE (defs₀ (F := F)) 𝒱₀ (c : Thread nD τ) none) Set.univ (k (window x off' size inb')) Q)
          -∗ wp frame (wpE (defs₀ (F := F)) 𝒱₀ (c : Thread nD τ) none) Set.univ (.op (.load M (Rect.unit off size inb).toLoadRect hl) k) Q) := by
  unfold owns
  iintro ⟨%f, %hf, H⟩ Hk
  iapply (wp_load 𝒱₀ (c : Thread nD τ) none Set.univ (m := M) (View.setOn_subset_set _ _)) $$ [H]
  · iexact H
  iintro H
  rw [View.readAt_unit M.view f inb h inb', hf]
  iapply Hk
  iexists f; isplitr; · (ipureintro; exact hf)
  iexact H

/-- A store over a window. -/
theorem wp_write {α : Type} {Q : α → sProp 𝕄} (x : sh.Idx → Elt F e) {off off' size : Fin sh.rank → ℕ} (inb : ∀ a, off a + size a ≤ sh.size a)
    (h : off = off') (w : (Rect.unit off size inb).shape.Idx → Elt F e)
    {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    owns (c : Thread nD τ) M fullShare x
      ⊢ iprop((owns (c : Thread nD τ) M fullShare (put x off' size w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit off size inb) w Finset.univ hx hm) k) Q) := by
  unfold owns
  iintro ⟨%f, %hf, H⟩ Hk
  iapply (wp_store 𝒱₀ (c : Thread nD τ) none Set.univ (m := M) (r := Rect.unit off size inb) (Mk := Finset.univ)
    (by exact View.set_slice_subset _ _)) $$ [H]
  · iexact H
  iintro H
  iapply Hk
  iexists _
  isplitr
  · ipureintro
    exact (View.read_writes_cons_put M.view f inb w [] h).trans (by rw [View.writes_nil, hf])
  iexact H

end Access

/-! ## A half as the loads read it -/

/-- Position `(0, 0, r, x)` of a loaded block, in the slot: half `a` of the pair. -/
def inSlot (a : Fin 2) (y : S1x1x2048x256.Idx) : S2x2048x256.Idx := fun b => match b with
  | ⟨0, _⟩ => a
  | ⟨1, _⟩ => y 2
  | ⟨2, _⟩ => y 3

/-- Half `a` (keys, then values) of a slot's contents as a load brings it. -/
def part (x : Vec F S2x2048x256 .bf16) (a : Fin 2) : Vec F S1x1x2048x256 .bf16 := fun y => x (inSlot a y)

theorem part_inb (s : Fin 4) (a : Fin 2) : ∀ b, (![s.val, a.val, 0, 0] : Fin 4 → ℕ) b + S1x1x2048x256.size b ≤ S4x2x2048x256.size b := by
  revert s a; decide

/-- Position `i` of slot `s`, in its buffer. -/
def inBuf (s : Fin 4) (i : S2x2048x256.Idx) : S4x2x2048x256.Idx := fun b => match b with
  | ⟨0, _⟩ => s
  | ⟨1, _⟩ => i 0
  | ⟨2, _⟩ => i 1
  | ⟨3, _⟩ => i 2

theorem slot_read (d : Bool) (s : Fin 4) (f : (kvM d).view.ty.Contents (Elt F)) (i : S2x2048x256.Idx) :
    (slotM d s).view.read (Elt F) f i = (kvM d).view.read (Elt F) f (inBuf s i) := by
  have hc : S1x2x2048x256.ShapeCasts S2x2048x256 := by decide
  rw [Memref.read_squeeze_slice (kvM d) (slotR s) (fun _ => rfl) squeezes_S1x2x2048x256_S2x2048x256 hc f]
  refine (shapeCast_dropUnit_apply ![2, 2048, 256] _ _ i).trans ?_
  rw [View.readAt_apply]
  refine congrArg _ (funext fun b => Fin.ext ?_)
  match b with
  | ⟨0, _⟩ => show s.val + 1 * 0 = s.val; omega
  | ⟨1, _⟩ => show 0 + 1 * (i 0).val = (i 0).val; omega
  | ⟨2, _⟩ => show 0 + 1 * (i 1).val = (i 1).val; omega
  | ⟨3, _⟩ => show 0 + 1 * (i 2).val = (i 2).val; omega

/-- A block of a slot, in its buffer. -/
abbrev partR (s : Fin 4) (a : Fin 2) : Rect S4x2x2048x256 :=
  Rect.unit (s := S4x2x2048x256) ![s.val, a.val, 0, 0] S1x1x2048x256.size (part_inb s a)

theorem part_subset (d : Bool) (s : Fin 4) (a : Fin 2) : ((kvM d).access (partR s a)).set ⊆ (slotM d s).view.set := by
  rw [Memref.set_view_squeeze]
  show ((kvM d).view.slice (partR s a)).set ⊆ ((kvM d).view.slice (slotR s)).set
  rw [View.set_slice, View.set_slice]
  refine Finset.map_subset_map.mpr fun i hi => ?_
  rw [Rect.mem_set_unit] at hi ⊢
  have ha := a.isLt
  intro b
  have hb := hi b
  match b with
  | ⟨0, _⟩ => exact hb
  | ⟨1, _⟩ =>
    have h1 : a.val ≤ (i 1).val ∧ (i 1).val < a.val + 1 := hb
    show 0 ≤ (i 1).val ∧ (i 1).val < 0 + 2
    omega
  | ⟨2, _⟩ => exact hb
  | ⟨3, _⟩ => exact hb

theorem part_emb (s : Fin 4) (a : Fin 2) (y : S1x1x2048x256.Idx) : (partR s a).emb y = inBuf s (inSlot a y) := by
  refine funext fun b => Fin.ext ?_
  have h0 : (y 0).val < 1 := (y 0).isLt
  have h1 : (y 1).val < 1 := (y 1).isLt
  match b with
  | ⟨0, _⟩ => show s.val + 1 * (y 0).val = s.val; omega
  | ⟨1, _⟩ => show a.val + 1 * (y 1).val = a.val; omega
  | ⟨2, _⟩ => show 0 + 1 * (y 2).val = (y 2).val; omega
  | ⟨3, _⟩ => show 0 + 1 * (y 3).val = (y 3).val; omega

/-- A slot's contents with half `a` replaced. -/
def setPart (x : Vec F S2x2048x256 .bf16) (a : Fin 2) (w : Vec F S1x1x2048x256 .bf16) : Vec F S2x2048x256 .bf16 := fun i =>
  if (i 0).val = a.val then w (fun b => match b with | ⟨0, _⟩ => (0 : Fin 1) | ⟨1, _⟩ => (0 : Fin 1) | ⟨2, _⟩ => i 1 | ⟨3, _⟩ => i 2) else x i

section Slot

variable (c : Dev nD) (d : Bool) (s : Fin 4) (a : Fin 2)

/-- A load of half `a` of a slot. -/
theorem wp_readPart {α : Type} {Q : α → sProp 𝕄} (q : PosShare TreeShare) (x : Vec F S2x2048x256 .bf16)
    {hl : (kvM d).view.LoadsAt (partR s a).toLoadRect}
    {k : ((partR s a).toLoadRect.shape.Idx → Elt F .bf16) → Prog (TpuEff nD τ sig (Elt F) Λ₀ .tc) α} :
    slotP c d s q x
      ⊢ iprop((slotP c d s q x -∗ wp frame (wpE (defs₀ (F := F)) 𝒱₀ (c : Thread nD τ) none) Set.univ (k (part x a)) Q)
          -∗ wp frame (wpE (defs₀ (F := F)) 𝒱₀ (c : Thread nD τ) none) Set.univ (.op (.load (kvM d) (partR s a).toLoadRect hl) k) Q) := by
  unfold slotP owns
  iintro ⟨%f, %hf, H⟩ Hk
  iapply (wp_load_rect 𝒱₀ (c : Thread nD τ) none Set.univ (m := kvM d) (part_subset d s a)) $$ [H]
  · iexact H
  iintro H
  have e : ((kvM d).access (partR s a)).read (Elt F) f = part x a := by
    funext y
    show (kvM d).view.read (Elt F) f ((partR s a).emb y) = x (inSlot a y)
    rw [part_emb, ← slot_read, hf]
  rw [e]
  iapply Hk
  iexists f; isplitr; · (ipureintro; exact hf)
  iexact H

/-- A store over half `a` of a slot. -/
theorem wp_writePart {α : Type} {Q : α → sProp 𝕄} (x : Vec F S2x2048x256 .bf16) (w : (partR s a).shape.Idx → Elt F .bf16)
    {hx : ((kvM d).access (partR s a)).Stores Finset.univ}
    {hm : (Finset.univ : Finset (partR s a).shape.Idx) = Finset.univ ∨ ∀ b, (partR s a).stride b = 1}
    {k : PUnit → Prog (TpuEff nD τ sig (Elt F) Λ₀ .tc) α} :
    slotP c d s fullShare x
      ⊢ iprop((slotP c d s fullShare (setPart x a w) -∗ wp frame (wpE (defs₀ (F := F)) 𝒱₀ (c : Thread nD τ) none) Set.univ (k ⟨⟩) Q)
          -∗ wp frame (wpE (defs₀ (F := F)) 𝒱₀ (c : Thread nD τ) none) Set.univ (.op (.store (kvM d) (partR s a) w Finset.univ hx hm) k) Q) := by
  unfold slotP owns
  iintro ⟨%f, %hf, H⟩ Hk
  iapply (wp_store 𝒱₀ (c : Thread nD τ) none Set.univ (m := kvM d) (r := partR s a) (Mk := Finset.univ) (part_subset d s a)) $$ [H]
  · iexact H
  iintro H
  iapply Hk
  iexists ((kvM d).access (partR s a)).write (Elt F) f w Finset.univ
  isplitr
  · ipureintro
    funext i
    refine (slot_read d s (((kvM d).access (partR s a)).write (Elt F) f w Finset.univ) i).trans ?_
    refine (congrFun (View.read_writes_cons_put (kvM d).view f (part_inb s a) w [] rfl) (inBuf s i)).trans ?_
    unfold setPart
    by_cases hi : (i 0).val = a.val
    · rw [if_pos hi]
      have h : ∀ b, (![s.val, a.val, 0, 0] : Fin 4 → ℕ) b ≤ (inBuf s i b).val
          ∧ (inBuf s i b).val < (![s.val, a.val, 0, 0] : Fin 4 → ℕ) b + S1x1x2048x256.size b := fun b => by
        match b with
        | ⟨0, _⟩ => show s.val ≤ s.val ∧ s.val < s.val + 1; omega
        | ⟨1, _⟩ => show a.val ≤ (i 0).val ∧ (i 0).val < a.val + 1; rw [hi]; omega
        | ⟨2, _⟩ => have := (i 1).isLt; show 0 ≤ (i 1).val ∧ (i 1).val < 0 + 2048; exact ⟨Nat.zero_le _, by simpa using this⟩
        | ⟨3, _⟩ => have := (i 2).isLt; show 0 ≤ (i 2).val ∧ (i 2).val < 0 + 256; exact ⟨Nat.zero_le _, by simpa using this⟩
      refine (dif_pos h).trans (congrArg w (funext fun b => Fin.ext ?_))
      match b with
      | ⟨0, _⟩ => show s.val - s.val = 0; omega
      | ⟨1, _⟩ => show (i 0).val - a.val = 0; rw [hi]; omega
      | ⟨2, _⟩ => rfl
      | ⟨3, _⟩ => rfl
    · rw [if_neg hi]
      refine (dif_neg (fun h => hi ?_)).trans ?_
      · have h1 : a.val ≤ (i 0).val ∧ (i 0).val < a.val + 1 := h 1
        omega
      · rw [View.writes_nil, ← slot_read, hf]
  iexact H

end Slot

/-- The two halves stored over a slot make the pair. -/
theorem setPart_pair (x : Vec F S2x2048x256 .bf16) (k v : Vec F S2048x256 .bf16) (hc : S2048x256.ShapeCasts S1x1x2048x256) :
    setPart (setPart x 0 (shapeCast S1x1x2048x256 k hc)) 1 (shapeCast S1x1x2048x256 v hc) = pair k v := by
  funext i
  have e : ∀ u : Vec F S2048x256 .bf16, shapeCast S1x1x2048x256 u hc
      (fun b => match b with | ⟨0, _⟩ => (0 : Fin 1) | ⟨1, _⟩ => (0 : Fin 1) | ⟨2, _⟩ => i 1 | ⟨3, _⟩ => i 2)
      = u (fun a => match a with | ⟨0, _⟩ => i 1 | ⟨1, _⟩ => i 2) := fun u => by
    refine shapeCast_apply u hc _ _ ?_
    rw [Shape.rowMajor_val_two, Shape.rowMajor_val_four]
    show (i 1).val * 256 + (i 2).val = ((0 * 1 + 0) * 2048 + (i 1).val) * 256 + (i 2).val
    omega
  have h0 : (i 0).val < 2 := (i 0).isLt
  unfold setPart pair
  by_cases h : (i 0).val = 0
  · have h1 : ¬ (i 0).val = (1 : Fin 2).val := fun h' => by rw [h] at h'; exact absurd h' (by decide)
    rw [if_pos h, if_neg h1, if_pos (show (i 0).val = (0 : Fin 2).val from h), e]
    rfl
  · have h1 : (i 0).val = (1 : Fin 2).val := by show (i 0).val = 1; omega
    rw [if_neg h, if_pos h1, e]
    rfl

/-! ## One trip, and the loop -/

abbrev qM : Memref sig .tc .vmem S4096x256 .bf16 := Memref.whole cc0_stg0_0
abbrev oM : Memref sig .tc .vmem S4096x256 .f32 := Memref.whole cc0_stg3_0
abbrev lM : Memref sig .tc .vmem S4096x1 .f32 := Memref.whole cc0_scratch2

/-- A block's new numerator from its queries, its old numerator, and both halves; -/
def newO (q : Vec F S512x256 .bf16) (o : Vec F S512x256 .f32) (ka va kb vb : Vec F S1x1x2048x256 .bf16) : Vec F S512x256 .f32 :=
  k0_pay63 (k0_pay3 q o ka va) (k0_pay4 vb) (k0_pay7 q kb)
/-- and its new denominator. -/
def newL (q : Vec F S512x256 .bf16) (l : Vec F S512x1 .f32) (ka kb : Vec F S1x1x2048x256 .bf16) : Vec F S512x1 .f32 :=
  k0_pay64 (k0_pay6 q l ka kb)

/-- One trip: the block at `oA` (of the queries and the numerator) and `oB` (of the denominator), with slot `s`. -/
def trip (s : Fin 4) (oA : Fin 2 → ℕ) (hA : ∀ a, oA a + S512x256.size a ≤ S4096x256.size a)
    (oB : Fin 2 → ℕ) (hB : ∀ a, oB a + S512x1.size a ≤ S4096x1.size a) : Prog (TpuEff nD τ sig (Elt F) Λ₀ .tc) Unit :=
  .op (.load qM (Rect.unit (s := S4096x256) oA S512x256.size hA).toLoadRect (View.loadsAt_vmem h_S512x256)) fun q =>
  .op (.load oM (Rect.unit (s := S4096x256) oA S512x256.size hA).toLoadRect (View.loadsAt_vmem h_S512x256)) fun o =>
  .op (.load lM (Rect.unit (s := S4096x1) oB S512x1.size hB).toLoadRect (View.loadsAt_vmem h_S512x1)) fun l =>
  .op (.load (kvM false) (partR s 0).toLoadRect (View.loadsAt_vmem h_S1x1x2048x256)) fun ka =>
  .op (.load (kvM false) (partR s 1).toLoadRect (View.loadsAt_vmem h_S1x1x2048x256)) fun va =>
  .op (.load (kvM true) (partR s 0).toLoadRect (View.loadsAt_vmem h_S1x1x2048x256)) fun kb =>
  .op (.load (kvM true) (partR s 1).toLoadRect (View.loadsAt_vmem h_S1x1x2048x256)) fun vb =>
  .op (.load oM (Rect.unit (s := S4096x256) oA S512x256.size hA).toLoadRect (View.loadsAt_vmem h_S512x256)) fun _ =>
  .op (.store oM (Rect.unit (s := S4096x256) oA S512x256.size hA) (newO q o ka va kb vb) Finset.univ (View.stores_vmem_bits_univ h_S512x256 rfl) (.inl rfl)) fun _ =>
  .op (.load lM (Rect.unit (s := S4096x1) oB S512x1.size hB).toLoadRect (View.loadsAt_vmem h_S512x1)) fun _ =>
  .op (.store lM (Rect.unit (s := S4096x1) oB S512x1.size hB) (newL q l ka kb) Finset.univ (View.stores_vmem_bits_univ h_S512x1 rfl) (.inl rfl)) fun _ =>
  .ret ⟨⟩

theorem rows_inb (W : ℕ) (t : ℕ) (ht : t < 8) : ∀ a : Fin 2, (![512 * t, 0] : Fin 2 → ℕ) a + (![512, W] : Fin 2 → ℕ) a ≤ (![4096, W] : Fin 2 → ℕ) a := fun a => by
  match a with
  | ⟨0, _⟩ => show 512 * t + 512 ≤ 4096; omega
  | ⟨1, _⟩ => show 0 + W ≤ W; omega

/-- Block `t` of 512 rows. -/
def rows {W : ℕ} {α : Type} (t : ℕ) (ht : t < 8) (x : (⟨2, ![4096, W]⟩ : Shape).Idx → α) : (⟨2, ![512, W]⟩ : Shape).Idx → α :=
  window (s := ⟨2, ![4096, W]⟩) x ![512 * t, 0] ![512, W] (rows_inb W t ht)

/-- The block of a row, and its place in it. -/
def blockOf {W : ℕ} (i : (⟨2, ![4096, W]⟩ : Shape).Idx) : ℕ := (i 0).val / 512
theorem blockOf_lt {W : ℕ} (i : (⟨2, ![4096, W]⟩ : Shape).Idx) : blockOf i < 8 := by
  have : (i 0).val < 4096 := (i 0).isLt
  unfold blockOf; omega
def inBlock {W : ℕ} (i : (⟨2, ![4096, W]⟩ : Shape).Idx) : (⟨2, ![512, W]⟩ : Shape).Idx := fun a => match a with
  | ⟨0, _⟩ => (⟨(i 0).val % 512, Nat.mod_lt _ (by decide)⟩ : Fin 512)
  | ⟨1, _⟩ => i 1

/-- The array whose block `t` is `g t`. -/
def glue {W : ℕ} {α : Type} (g : (t : ℕ) → t < 8 → (⟨2, ![512, W]⟩ : Shape).Idx → α) : (⟨2, ![4096, W]⟩ : Shape).Idx → α := fun i =>
  g (blockOf i) (blockOf_lt i) (inBlock i)

/-- The first `t` blocks from `new`, the others from `old`. -/
def upTo {W : ℕ} {α : Type} (t : ℕ) (new old : (⟨2, ![4096, W]⟩ : Shape).Idx → α) : (⟨2, ![4096, W]⟩ : Shape).Idx → α := fun i =>
  if blockOf i < t then new i else old i

theorem upTo_zero {W : ℕ} {α : Type} (new old : (⟨2, ![4096, W]⟩ : Shape).Idx → α) : upTo 0 new old = old :=
  funext fun i => if_neg (Nat.not_lt_zero _)
theorem upTo_all {W : ℕ} {α : Type} (new old : (⟨2, ![4096, W]⟩ : Shape).Idx → α) : upTo 8 new old = new :=
  funext fun i => if_pos (blockOf_lt i)

theorem rows_upTo {W : ℕ} {α : Type} (t : ℕ) (ht : t < 8) (new old : (⟨2, ![4096, W]⟩ : Shape).Idx → α) :
    rows t ht (upTo t new old) = rows t ht old := by
  funext y
  have h0 : (y 0).val < 512 := (y 0).isLt
  refine if_neg ?_
  show ¬ (512 * t + 1 * (y 0).val) / 512 < t
  omega

theorem put_upTo {W : ℕ} {α : Type} (t : ℕ) (ht : t < 8) (g : (t : ℕ) → t < 8 → (⟨2, ![512, W]⟩ : Shape).Idx → α)
    (old : (⟨2, ![4096, W]⟩ : Shape).Idx → α) :
    put (s := ⟨2, ![4096, W]⟩) (upTo t (glue g) old) ![512 * t, 0] ![512, W] (g t ht) = upTo (t + 1) (glue g) old := by
  funext i
  have h1 : (i 1).val < W := (i 1).isLt
  by_cases hi : blockOf i = t
  · have h : ∀ a : Fin 2, (![512 * t, 0] : Fin 2 → ℕ) a ≤ (i a).val ∧ (i a).val < (![512 * t, 0] : Fin 2 → ℕ) a + (![512, W] : Fin 2 → ℕ) a := fun a => by
      match a with
      | ⟨0, _⟩ => unfold blockOf at hi; show 512 * t ≤ (i 0).val ∧ (i 0).val < 512 * t + 512; omega
      | ⟨1, _⟩ => show 0 ≤ (i 1).val ∧ (i 1).val < 0 + W; omega
    refine (dif_pos h).trans ?_
    unfold upTo
    rw [if_pos (by omega)]
    unfold glue
    subst hi
    refine congrArg _ (funext fun a => Fin.ext ?_)
    match a with
    | ⟨0, _⟩ => show (i 0).val - 512 * ((i 0).val / 512) = (i 0).val % 512; omega
    | ⟨1, _⟩ => rfl
  · refine (dif_neg (fun h => hi ?_)).trans ?_
    · have h0 : 512 * t ≤ (i 0).val ∧ (i 0).val < 512 * t + 512 := h 0
      unfold blockOf; omega
    · unfold upTo
      by_cases hlt : blockOf i < t
      · rw [if_pos hlt, if_pos (by omega)]
      · rw [if_neg hlt, if_neg (by omega)]

/-- The numerator after a step with slots `xa`, `xb`; -/
def stepO (q : Vec F S4096x256 .bf16) (xa xb : Vec F S2x2048x256 .bf16) (o : Vec F S4096x256 .f32) : Vec F S4096x256 .f32 :=
  glue (W := 256) fun t ht => newO (rows (W := 256) t ht q) (rows (W := 256) t ht o) (part xa 0) (part xa 1) (part xb 0) (part xb 1)
/-- the denominator. -/
def stepL (q : Vec F S4096x256 .bf16) (xa xb : Vec F S2x2048x256 .bf16) (l : Vec F S4096x1 .f32) : Vec F S4096x1 .f32 :=
  glue (W := 1) fun t ht => newL (rows (W := 256) t ht q) (rows (W := 1) t ht l) (part xa 0) (part xb 0)

section Loop

variable (c : Dev nD) (s : Fin 4) (e : PosShare TreeShare) (q : Vec F S4096x256 .bf16) (xa xb : Vec F S2x2048x256 .bf16) (o : Vec F S4096x256 .f32) (l : Vec F S4096x1 .f32)

/-- The loop's state after `t` trips; a share `e` of the slots is enough, for they are read alone. -/
def inv (t : ℕ) : sProp 𝕄 :=
  iprop(owns (c : Thread nD τ) qM fullShare q ∗ slotP c false s e xa ∗ slotP c true s e xb
    ∗ owns (c : Thread nD τ) oM fullShare (upTo (W := 256) t (stepO q xa xb o) o)
    ∗ owns (c : Thread nD τ) lM fullShare (upTo (W := 1) t (stepL q xa xb l) l))

theorem wp_trip (t : ℕ) (ht : t < 8) (oA : Fin 2 → ℕ) (hA : ∀ a, oA a + S512x256.size a ≤ S4096x256.size a) (eA : oA = ![512 * t, 0])
    (oB : Fin 2 → ℕ) (hB : ∀ a, oB a + S512x1.size a ≤ S4096x1.size a) (eB : oB = ![512 * t, 0]) :
    inv c s e q xa xb o l t ⊢ wp frame (wpE (defs₀ (F := F)) 𝒱₀ (c : Thread nD τ) none) Set.univ (trip (F := F) s oA hA oB hB) fun _ => inv c s e q xa xb o l (t + 1) := by
  unfold inv trip
  iintro ⟨Hq, Ha, Hb, Ho, Hl⟩
  iapply (wp_read c qM _ _ hA eA (rows_inb 256 t ht)) $$ Hq; iintro Hq
  iapply (wp_read c oM _ _ hA eA (rows_inb 256 t ht)) $$ Ho; iintro Ho
  iapply (wp_read c lM _ _ hB eB (rows_inb 1 t ht)) $$ Hl; iintro Hl
  iapply (wp_readPart c false s 0 _ _) $$ Ha; iintro Ha
  iapply (wp_readPart c false s 1 _ _) $$ Ha; iintro Ha
  iapply (wp_readPart c true s 0 _ _) $$ Hb; iintro Hb
  iapply (wp_readPart c true s 1 _ _) $$ Hb; iintro Hb
  iapply (wp_read c oM _ _ hA eA (rows_inb 256 t ht)) $$ Ho; iintro Ho
  iapply (wp_write c oM _ hA eA _) $$ Ho; iintro Ho
  iapply (wp_read c lM _ _ hB eB (rows_inb 1 t ht)) $$ Hl; iintro Hl
  iapply (wp_write c lM _ hB eB _) $$ Hl; iintro Hl
  rw [wp_ret]
  imodintro
  isplitl [Hq]; · iexact Hq
  isplitl [Ha]; · iexact Ha
  isplitl [Hb]; · iexact Hb
  isplitl [Ho]
  · iapply (Entails.of_eq (congrArg (owns (c : Thread nD τ) oM fullShare) ?_)) $$ Ho
    refine Eq.trans ?_ (put_upTo (W := 256) t ht (fun t ht => newO (rows (W := 256) t ht q) (rows (W := 256) t ht o) (part xa 0) (part xa 1) (part xb 0) (part xb 1)) o)
    exact congrArg (fun u => put (s := ⟨2, ![4096, 256]⟩) (upTo (W := 256) t (stepO q xa xb o) o) ![512 * t, 0] ![512, 256]
      (newO (rows (W := 256) t ht q) u (part xa 0) (part xa 1) (part xb 0) (part xb 1))) (rows_upTo (W := 256) t ht (stepO q xa xb o) o)
  · iapply (Entails.of_eq (congrArg (owns (c : Thread nD τ) lM fullShare) ?_)) $$ Hl
    refine Eq.trans ?_ (put_upTo (W := 1) t ht (fun t ht => newL (rows (W := 256) t ht q) (rows (W := 1) t ht l) (part xa 0) (part xb 0)) l)
    exact congrArg (fun u => put (s := ⟨2, ![4096, 1]⟩) (upTo (W := 1) t (stepL q xa xb l) l) ![512 * t, 0] ![512, 1]
      (newL (rows (W := 256) t ht q) u (part xa 0) (part xb 0))) (rows_upTo (W := 1) t ht (stepL q xa xb l) l)

/-- The loop of one step, whatever its printed bounds, as soon as each trip is the trip above. -/
theorem wp_trips {lb ub st : BitVec 32} {hok : Scf.OK lb ub st} (hn : Scf.trips lb ub st = 8)
    (body : Fin (Scf.trips lb ub st) → Unit → Prog (TpuEff nD τ sig (Elt F) Λ₀ .tc) Unit)
    (oA oB : Fin (Scf.trips lb ub st) → Fin 2 → ℕ) (hA : ∀ t a, oA t a + S512x256.size a ≤ S4096x256.size a)
    (hB : ∀ t a, oB t a + S512x1.size a ≤ S4096x1.size a) (eA : ∀ t, oA t = ![512 * t.val, 0]) (eB : ∀ t, oB t = ![512 * t.val, 0])
    (hbody : ∀ t u, body t u = trip s (oA t) (hA t) (oB t) (hB t))
    {β : Type} {kk : Unit → Prog (TpuEff nD τ sig (Elt F) Λ₀ .tc) β} {Q : β → sProp 𝕄} :
    iprop(owns (c : Thread nD τ) qM fullShare q ∗ slotP c false s e xa ∗ slotP c true s e xb
        ∗ owns (c : Thread nD τ) oM fullShare o ∗ owns (c : Thread nD τ) lM fullShare l)
      ⊢ iprop(((owns (c : Thread nD τ) qM fullShare q ∗ slotP c false s e xa ∗ slotP c true s e xb
            ∗ owns (c : Thread nD τ) oM fullShare (stepO q xa xb o) ∗ owns (c : Thread nD τ) lM fullShare (stepL q xa xb l))
            -∗ wp frame (wpE (defs₀ (F := F)) 𝒱₀ (c : Thread nD τ) none) Set.univ (kk ⟨⟩) Q)
          -∗ wp frame (wpE (defs₀ (F := F)) 𝒱₀ (c : Thread nD τ) none) Set.univ (Scf.for lb ub st hok () body >>= kk) Q) := by
  iintro H Hk
  iapply (Scf.wp_for_bind frame (wpE (defs₀ (F := F)) 𝒱₀ (c : Thread nD τ) none) Set.univ lb ub st hok () body
    (fun t _ => inv c s e q xa xb o l t) (fun t u => by
      rw [hbody]
      exact wp_trip c s e q xa xb o l t.val (by have := t.isLt; omega) _ _ (eA t) _ _ (eB t))) $$ [H]
  · unfold inv; rw [upTo_zero, upTo_zero]; iexact H
  iintro %_ H
  iapply Hk
  rw [hn]; unfold inv; rw [upTo_all, upTo_all]; iexact H

end Loop

end Cert.KernelIdeal.Ring
-- ==== Proof.Ideal.Program.lean ====
/-
# The kernel body, read as the steps of the ring

The printed body is one list of memory operations. Here it is written by the steps it takes: the entry, the fill of the
two first slots and of the accumulators, seven steps that send, add and wait, the last addition, and the division.
-/
module

public import proofs.«01_k».proof.Proof.Ideal.Trips

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

/-! ## The pieces -/

abbrev P (F : FTy → Type) : Type → Type 1 := Prog (TpuEff nD τ sig (Elt F) Λ₀ .tc)

theorem slot_word (d : Bool) (s : Fin 4) : (slotM d s).view.WordExact := by
  cases d
  · match s with
    | 0 => exact ((Memref.isWhole_whole cc0_scratch0).wordExact_slice rfl _ wordsbf16_S4x2x2048x256_S1x2x2048x256_0_0_0_0).reshape _ _
    | 1 => exact ((Memref.isWhole_whole cc0_scratch0).wordExact_slice rfl _ wordsbf16_S4x2x2048x256_S1x2x2048x256_1_0_0_0).reshape _ _
    | 2 => exact ((Memref.isWhole_whole cc0_scratch0).wordExact_slice rfl _ wordsbf16_S4x2x2048x256_S1x2x2048x256_2_0_0_0).reshape _ _
    | 3 => exact ((Memref.isWhole_whole cc0_scratch0).wordExact_slice rfl _ wordsbf16_S4x2x2048x256_S1x2x2048x256_3_0_0_0).reshape _ _
  · match s with
    | 0 => exact ((Memref.isWhole_whole cc0_scratch1).wordExact_slice rfl _ wordsbf16_S4x2x2048x256_S1x2x2048x256_0_0_0_0).reshape _ _
    | 1 => exact ((Memref.isWhole_whole cc0_scratch1).wordExact_slice rfl _ wordsbf16_S4x2x2048x256_S1x2x2048x256_1_0_0_0).reshape _ _
    | 2 => exact ((Memref.isWhole_whole cc0_scratch1).wordExact_slice rfl _ wordsbf16_S4x2x2048x256_S1x2x2048x256_2_0_0_0).reshape _ _
    | 3 => exact ((Memref.isWhole_whole cc0_scratch1).wordExact_slice rfl _ wordsbf16_S4x2x2048x256_S1x2x2048x256_3_0_0_0).reshape _ _

theorem slot_local (d : Bool) (s : Fin 4) : (slotM d s).view.ref.isScScratch = false := by cases d <;> rfl

/-- The semaphores of the transfers, and of the credits. -/
def sndS (d : Bool) (s : Fin 4) : DmaSem sig := ⟨s.val + (if d then 12 else 4), by have := s.isLt; show _ < 20; split <;> omega⟩
def rcvS (d : Bool) (s : Fin 4) : DmaSem sig := ⟨s.val + (if d then 16 else 8), by have := s.isLt; show _ < 20; split <;> omega⟩
def crS : Bool → Sem sig
  | false => (cc0_scratch7 : Sems sig S_).sem
  | true => (cc0_scratch8 : Sems sig S_).sem

variable {α : Type}

/-- The transfer of step `h` in direction `d`, to device `n`. -/
def sendOp (d : Bool) (h : ℕ) (n : Dev nD) (k : PUnit → P F α) : P F α :=
  .op (.enqueueDma (slotM d (sl h))
    (.remote (Dev.tc n : Thread nD τ) (slotM d (sl (h + 1))) (.dma (sndS d (sl h))) (slot_local d (sl (h + 1))))
    (.dma (rcvS d (sl (h + 1)))) (slot_word d (sl h)) (slot_word d (sl (h + 1))) ⟨⟨rfl, Or.inl rfl⟩, trivial⟩) k

/-- The wait for its completion, -/
def sentOp (d : Bool) (h : ℕ) (k : PUnit → P F α) : P F α :=
  .op (.waitDma2 (sndS d (sl h)) (slotM d (sl (h + 1))) (slotM d (sl h)) (slot_word d (sl (h + 1))) (slot_word d (sl h))) k
/-- and the wait for the neighbour's. -/
def gotOp (d : Bool) (h : ℕ) (k : PUnit → P F α) : P F α :=
  .op (.waitDma2 (rcvS d (sl (h + 1))) (slotM d (sl h)) (slotM d (sl (h + 1))) (slot_word d (sl h)) (slot_word d (sl (h + 1)))) k

/-- A unit on a neighbour's semaphore, -/
def unitOp (s : Sem sig) (n : Dev nD) (k : PUnit → P F α) : P F α := .op (.semSignal (Dev.tc n : Thread nD τ) s ((1 : ℕ) : ℤ)) k
/-- and a wait for `u` units on an own one. -/
def needOp (s : Sem sig) (u : ℕ) (k : PUnit → P F α) : P F α := .op (.semWait s (u : ℤ)) k

/-- A step's counted loop over the blocks, with slot `s`. -/
def loopP (s : Fin 4) (l : Scf.Loop 32) (hok : l.OK) (oA : Fin l.trips → Fin 2 → ℕ) (hA : ∀ t a, oA t a + S512x256.size a ≤ S4096x256.size a)
    (oB : Fin l.trips → Fin 2 → ℕ) (hB : ∀ t a, oB t a + S512x1.size a ≤ S4096x1.size a) (k : Unit → P F α) : P F α :=
  Scf.for l.lb l.ub l.st hok () (fun t _ => trip s (oA t) (hA t) (oB t) (hB t)) >>= k

/-- Half `d` of the keys or values, written into half `a` of direction `d`'s first slot. -/
def fillOp (M : Memref sig .tc .vmem S4096x256 .bf16) (d : Bool) (a : Fin 2) (hb : ∀ b, (![half d, 0] : Fin 2 → ℕ) b + S2048x256.size b ≤ S4096x256.size b)
    (pay : Vec F S2048x256 .bf16 → Vec F S1x1x2048x256 .bf16) (hx : ((kvM d).access (partR 0 a)).Stores Finset.univ) (k : PUnit → P F α) : P F α :=
  .op (.load M (Rect.unit (s := S4096x256) ![half d, 0] S2048x256.size hb).toLoadRect (View.loadsAt_vmem h_S2048x256)) fun x =>
  .op (.load (kvM d) (partR 0 a).toLoadRect (View.loadsAt_vmem h_S1x1x2048x256)) fun _ =>
  .op (.store (kvM d) (partR 0 a) (pay x) Finset.univ hx (.inl rfl)) k

/-- A step of the ring up to the waits for the transfers. -/
def hopP (h : ℕ) (n n' : Dev nD) (l : Scf.Loop 32) (hok : l.OK) (oA : Fin l.trips → Fin 2 → ℕ) (hA : ∀ t a, oA t a + S512x256.size a ≤ S4096x256.size a)
    (oB : Fin l.trips → Fin 2 → ℕ) (hB : ∀ t a, oB t a + S512x1.size a ≤ S4096x1.size a) (k : PUnit → P F α) : P F α :=
  sendOp false h n fun _ => sendOp true h n' fun _ => loopP (sl h) l hok oA hA oB hB fun _ =>
  sentOp false h fun _ => gotOp false h fun _ => sentOp true h fun _ => gotOp true h k

abbrev kM : Memref sig .tc .vmem S4096x256 .bf16 := Memref.whole cc0_stg1_0
abbrev vM : Memref sig .tc .vmem S4096x256 .bf16 := Memref.whole cc0_stg2_0
abbrev oR : Rect S4096x256 := Rect.unit (s := S4096x256) ![0, 0] S4096x256.size inb_S4096x256_S4096x256_0_0
abbrev lR : Rect S4096x1 := Rect.unit (s := S4096x1) ![0, 0] S4096x1.size inb_S4096x1_S4096x1_0_0

theorem part_stores (d : Bool) (a : Fin 2) : ((kvM d).access (partR 0 a)).Stores Finset.univ := by
  cases d
  · match a with
    | 0 => exact View.stores_vmem h_S1x1x2048x256 ((Memref.isWhole_whole cc0_scratch0).storeExact_slice rfl _ packedbf16_S4x2x2048x256_S1x1x2048x256_0_0_0_0) (fun _ => rfl)
    | 1 => exact View.stores_vmem h_S1x1x2048x256 ((Memref.isWhole_whole cc0_scratch0).storeExact_slice rfl _ packedbf16_S4x2x2048x256_S1x1x2048x256_0_1_0_0) (fun _ => rfl)
  · match a with
    | 0 => exact View.stores_vmem h_S1x1x2048x256 ((Memref.isWhole_whole cc0_scratch1).storeExact_slice rfl _ packedbf16_S4x2x2048x256_S1x1x2048x256_0_0_0_0) (fun _ => rfl)
    | 1 => exact View.stores_vmem h_S1x1x2048x256 ((Memref.isWhole_whole cc0_scratch1).storeExact_slice rfl _ packedbf16_S4x2x2048x256_S1x1x2048x256_0_1_0_0) (fun _ => rfl)

/-- The first slots and the accumulators filled. -/
def fillP (k : PUnit → P F α) : P F α :=
  fillOp kM false 0 inb_S4096x256_S2048x256_0_0 k0_pay57 (part_stores false 0) fun _ =>
  fillOp vM false 1 inb_S4096x256_S2048x256_0_0 k0_pay58 (part_stores false 1) fun _ =>
  fillOp kM true 0 inb_S4096x256_S2048x256_2048_0 k0_pay59 (part_stores true 0) fun _ =>
  fillOp vM true 1 inb_S4096x256_S2048x256_2048_0 k0_pay60 (part_stores true 1) fun _ =>
  .op (.load lM lR.toLoadRect (View.loadsAt_vmem h_S4096x1)) fun _ =>
  .op (.store lM lR (k0_pay61 (F := F)) Finset.univ (View.stores_vmem_bits_univ h_S4096x1 rfl) (.inl rfl)) fun _ =>
  .op (.load oM oR.toLoadRect (View.loadsAt_vmem h_S4096x256)) fun _ =>
  .op (.store oM oR (k0_pay62 (F := F)) Finset.univ (View.stores_vmem_bits_univ h_S4096x256 rfl) (.inl rfl)) k

/-- The division. -/
def closeP : P F PUnit :=
  .op (.load oM oR.toLoadRect (View.loadsAt_vmem h_S4096x256)) fun o =>
  .op (.load lM lR.toLoadRect (View.loadsAt_vmem h_S4096x1)) fun l =>
  .op (.load oM oR.toLoadRect (View.loadsAt_vmem h_S4096x256)) fun _ =>
  .op (.store oM oR (k0_pay79 o l) Finset.univ (View.stores_vmem_bits_univ h_S4096x256 rfl) (.inl rfl)) fun _ => .ret ⟨⟩

/-! ## The whole -/

/-- The body, by the device that runs it. -/
def ringP (c : Dev nD) : P F PUnit :=
  unitOp barS ⟨k0_dev1 c, k0_dev1_lt c⟩ fun _ => unitOp barS ⟨k0_dev2 c, k0_dev2_lt c⟩ fun _ => needOp barS 2 fun _ => fillP fun _ =>
  hopP 0 ⟨k0_dev3 c, k0_dev3_lt c⟩ ⟨k0_dev4 c, k0_dev4_lt c⟩ k0_t1_loop k0_t1_ok k0_off1 k0_off1_inb k0_off2 k0_off2_inb fun _ =>
  unitOp (crS false) ⟨k0_dev5 c, k0_dev5_lt c⟩ fun _ => unitOp (crS true) ⟨k0_dev6 c, k0_dev6_lt c⟩ fun _ =>
  hopP 1 ⟨k0_dev7 c, k0_dev7_lt c⟩ ⟨k0_dev8 c, k0_dev8_lt c⟩ k0_t2_loop k0_t2_ok k0_off3 k0_off3_inb k0_off4 k0_off4_inb fun _ =>
  unitOp (crS false) ⟨k0_dev9 c, k0_dev9_lt c⟩ fun _ => unitOp (crS true) ⟨k0_dev10 c, k0_dev10_lt c⟩ fun _ =>
  hopP 2 ⟨k0_dev11 c, k0_dev11_lt c⟩ ⟨k0_dev12 c, k0_dev12_lt c⟩ k0_t3_loop k0_t3_ok k0_off5 k0_off5_inb k0_off6 k0_off6_inb fun _ =>
  unitOp (crS false) ⟨k0_dev13 c, k0_dev13_lt c⟩ fun _ => unitOp (crS true) ⟨k0_dev14 c, k0_dev14_lt c⟩ fun _ =>
  needOp (crS false) 1 fun _ => needOp (crS true) 1 fun _ =>
  hopP 3 ⟨k0_dev15 c, k0_dev15_lt c⟩ ⟨k0_dev16 c, k0_dev16_lt c⟩ k0_t4_loop k0_t4_ok k0_off7 k0_off7_inb k0_off8 k0_off8_inb fun _ =>
  unitOp (crS false) ⟨k0_dev17 c, k0_dev17_lt c⟩ fun _ => unitOp (crS true) ⟨k0_dev18 c, k0_dev18_lt c⟩ fun _ =>
  needOp (crS false) 1 fun _ => needOp (crS true) 1 fun _ =>
  hopP 4 ⟨k0_dev19 c, k0_dev19_lt c⟩ ⟨k0_dev20 c, k0_dev20_lt c⟩ k0_t5_loop k0_t5_ok k0_off9 k0_off9_inb k0_off10 k0_off10_inb fun _ =>
  needOp (crS false) 1 fun _ => needOp (crS true) 1 fun _ =>
  hopP 5 ⟨k0_dev21 c, k0_dev21_lt c⟩ ⟨k0_dev22 c, k0_dev22_lt c⟩ k0_t6_loop k0_t6_ok k0_off11 k0_off11_inb k0_off12 k0_off12_inb fun _ =>
  needOp (crS false) 1 fun _ => needOp (crS true) 1 fun _ =>
  hopP 6 ⟨k0_dev23 c, k0_dev23_lt c⟩ ⟨k0_dev24 c, k0_dev24_lt c⟩ k0_t7_loop k0_t7_ok k0_off13 k0_off13_inb k0_off14 k0_off14_inb fun _ =>
  loopP 3 k0_t8_loop k0_t8_ok k0_off15 k0_off15_inb k0_off16 k0_off16_inb fun _ => closeP

section Eq

variable (c : Dev nD)

set_option maxRecDepth 65536 in
theorem body_eq :
    cc0_body (F := F) qM (Memref.isWhole_whole _) kM (Memref.isWhole_whole _) vM (Memref.isWhole_whole _) oM (Memref.isWhole_whole _)
      (Memref.whole cc0_scratch0) (Memref.isWhole_whole _) (Memref.whole cc0_scratch1) (Memref.isWhole_whole _) lM (Memref.isWhole_whole _)
      cc0_scratch3 cc0_scratch4 cc0_scratch5 cc0_scratch6 cc0_scratch7 cc0_scratch8
      = .op .deviceId ringP := by
  rw [cc0_body_eq_skeleton]
  unfold cc0_body_skel
  rw [k0_part27_eq_skeleton]
  unfold k0_part27_skel
  simp only [k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton, k0_part26_eq_skeleton]
  unfold k0_part9_skel k0_part10_skel k0_part11_skel k0_part12_skel k0_part13_skel k0_part14_skel k0_part15_skel k0_part16_skel k0_part17_skel
    k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, Prog.bind_assoc]
  rfl

end Eq

end Cert.KernelIdeal.Ring

end
-- ==== Proof.Ideal.Hop.lean ====
/-
# One step of the ring

What a device needs for its step `h` and what it has behind it, per direction; the step itself, at an `h` left open; and
how what one step leaves becomes what a later one needs.
-/
module

public import proofs.«01_k».proof.Proof.Ideal.Program

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

variable (m : (ℓ : Loc nD τ sig) → Buf (Elt F) ℓ) (ρ : Dev nD → PrngReg)

/-- The duties of step `h` in direction `d`: the payments of the two transfer semaphores, and the credit on which the
wait for the neighbour's transfer draws. -/
def duty (c : Dev nD) (d : Bool) (h : ℕ) : sProp 𝕄 :=
  iprop(dutyTok ER (cell c (.snd d (sl h))) (h / 4) 0 ∗ dutyTok ER (cell (nb d c) (.rcv d (sl (h + 1)))) (h / 4) 0
    ∗ cred (tallyAt (cell c (.rcv d (sl (h + 1)))) (2 * h + 2) N))

/-- Both transfer semaphores of step `h` are before round `r`. -/
def place (c : Dev nD) (d : Bool) (h r : ℕ) : sProp 𝕄 :=
  iprop(atPos ER (cell c (.snd d (sl h))) r ∅ 0 ∗ reached ER (cell c (.snd d (sl h))) r
    ∗ atPos ER (cell c (.rcv d (sl (h + 1)))) r ∅ 0 ∗ reached ER (cell c (.rcv d (sl (h + 1)))) r)

/-- Where step `h` sends. -/
def target (c : Dev nD) (d : Bool) (h : ℕ) : sProp 𝕄 := slotE (nb d c) d (sl (h + 1))
/-- The neighbour's semaphore is ready for step `h`. -/
def ready (c : Dev nD) (d : Bool) (h : ℕ) : sProp 𝕄 := reached ER (cell (nb d c) (.rcv d (sl (h + 1)))) (h / 4)
/-- The slot in use at step `h`, with what it holds. -/
def cur (c : Dev nD) (d : Bool) (h : ℕ) : sProp 𝕄 := slotP c d (sl h) fullShare (slotV m ρ d c h)

/-- What step `h` takes in direction `d`, -/
def hopPre (c : Dev nD) (d : Bool) (h : ℕ) : sProp 𝕄 :=
  iprop(duty c d h ∗ place c d h (h / 4) ∗ target c d h ∗ ready c d h ∗ gift c d h)
/-- and what it leaves. -/
def hopPost (c : Dev nD) (d : Bool) (h : ℕ) : sProp 𝕄 :=
  iprop(place c d h (h / 4 + 1) ∗ cur m ρ c d h ∗ cur m ρ c d (h + 1) ∗ gift (nb (!d) c) d h)

/-- The queries and the two accumulators. -/
def acc (c : Dev nD) (q : Vec F S4096x256 .bf16) (o : Vec F S4096x256 .f32) (l : Vec F S4096x1 .f32) : sProp 𝕄 :=
  iprop(owns (c : Thread nD τ) qM fullShare q ∗ owns (c : Thread nD τ) oM fullShare o ∗ owns (c : Thread nD τ) lM fullShare l)

section Wp

variable (K : Dev nD × Role → ℕ) (c : Dev nD)

theorem sent_eq (d : Bool) (h : ℕ) (Kt : PUnit → sProp 𝕄) :
    wpE (defs₀ (F := F)) 𝒱₀ (c : Thread nD τ) none Set.univ
      (.waitDma2 (sndS d (sl h)) (slotM d (sl (h + 1))) (slotM d (sl h)) (slot_word d (sl (h + 1))) (slot_word d (sl h))) Kt
      = waitSpec (c : Thread nD τ) Set.univ (sem (.snd d (sl h))) N Kt := by
  rw [wpE_waitDma2_eq 𝒱₀ (c : Thread nD τ) none Set.univ, credit_slot]; rfl

theorem got_eq (d : Bool) (h : ℕ) (Kt : PUnit → sProp 𝕄) :
    wpE (defs₀ (F := F)) 𝒱₀ (c : Thread nD τ) none Set.univ
      (.waitDma2 (rcvS d (sl (h + 1))) (slotM d (sl h)) (slotM d (sl (h + 1))) (slot_word d (sl h)) (slot_word d (sl (h + 1)))) Kt
      = waitSpec (c : Thread nD τ) Set.univ (sem (.rcv d (sl (h + 1)))) N Kt := by
  rw [wpE_waitDma2_eq 𝒱₀ (c : Thread nD τ) none Set.univ, credit_slot]; rfl

theorem wp_hop {α : Type} {Q : α → sProp 𝕄} {k : PUnit → P F α} (h : ℕ) (hh : h ≤ 6) (n n' : Dev nD) (hn : n = nb false c) (hn' : n' = nb true c)
    (lp : Scf.Loop 32) (hok : lp.OK) (ht : lp.trips = 8) (oA oB : Fin lp.trips → Fin 2 → ℕ)
    (hA : ∀ t a, oA t a + S512x256.size a ≤ S4096x256.size a) (hB : ∀ t a, oB t a + S512x1.size a ≤ S4096x1.size a)
    (eA : ∀ t, oA t = ![512 * t.val, 0]) (eB : ∀ t, oB t = ![512 * t.val, 0])
    (dl : List Due) (hl : ∀ x ∈ dl, 2 * h + 2 < x.lvl ∧ x.lvl < 32)
    (q : Vec F S4096x256 .bf16) (o : Vec F S4096x256 .f32) (l : Vec F S4096x1 .f32) :
    iprop(records m ρ K ∗ hopPre c false h ∗ hopPre c true h ∗ cur m ρ c false h ∗ cur m ρ c true h
        ∗ owesE c (.snd false h :: .snd true h :: dl) ∗ acc c q o l)
      ⊢ iprop(((hopPost m ρ c false h ∗ hopPost m ρ c true h ∗ owesE c dl
            ∗ acc c q (stepO q (slotV m ρ false c h) (slotV m ρ true c h) o) (stepL q (slotV m ρ false c h) (slotV m ρ true c h) l))
            -∗ wp frame (wpE (defs₀ (F := F)) 𝒱₀ (c : Thread nD τ) none) Set.univ (k ⟨⟩) Q)
          -∗ wp frame (wpE (defs₀ (F := F)) 𝒱₀ (c : Thread nD τ) none) Set.univ (hopP h n n' lp hok oA hA oB hB k) Q) := by
  have hl0 : ∀ x ∈ dl, 0 < x.lvl ∧ x.lvl < 32 := fun x hx => ⟨by have := (hl x hx).1; omega, (hl x hx).2⟩
  unfold hopPre hopPost hopP duty place target ready cur acc sendOp sentOp gotOp loopP
  iintro ⟨#HR, ⟨⟨Hs0, Hr0, Hc0⟩, ⟨Hps0, #Hrs0, Hpr0, #Hrr0⟩, Ht0, #Hrt0, Hg0⟩,
    ⟨⟨Hs1, Hr1, Hc1⟩, ⟨Hps1, #Hrs1, Hpr1, #Hrr1⟩, Ht1, #Hrt1, Hg1⟩, Hu0, Hu1, HO, ⟨Hq, Ho, Hl⟩⟩ Hk
  iapply (wp_send m ρ K c false h hh n hn _ _ rfl rfl (.snd true h :: dl)) $$ [Hs0 Hr0 Ht0 Hg0 Hu0 HO]
  · isplitr; · iexact HR
    isplitl [Hu0]; · iexact Hu0
    isplitl [Ht0]; · iexact Ht0
    isplitl [Hg0]; · iexact Hg0
    isplitl [HO]; · iexact HO
    isplitl [Hs0]; · iexact Hs0
    isplitr; · iexact Hrs0
    isplitl [Hr0]; · iexact Hr0
    iexact Hrt0
  iintro ⟨Hw0, Hu0, HO⟩
  iapply (wp_send m ρ K c true h hh n' hn' _ _ rfl rfl dl) $$ [Hs1 Hr1 Ht1 Hg1 Hu1 HO]
  · isplitr; · iexact HR
    isplitl [Hu1]; · iexact Hu1
    isplitl [Ht1]; · iexact Ht1
    isplitl [Hg1]; · iexact Hg1
    isplitl [HO]; · iexact HO
    isplitl [Hs1]; · iexact Hs1
    isplitr; · iexact Hrs1
    isplitl [Hr1]; · iexact Hr1
    iexact Hrt1
  iintro ⟨Hw1, Hu1, HO⟩
  iapply (wp_trips c (sl h) fullShare.right q (slotV m ρ false c h) (slotV m ρ true c h) o l ht
    (fun t _ => trip (sl h) (oA t) (hA t) (oB t) (hB t)) oA oB hA hB eA eB (fun _ _ => rfl)) $$ [Hq Hu0 Hu1 Ho Hl]
  · isplitl [Hq]; · iexact Hq
    isplitl [Hu0]; · iexact Hu0
    isplitl [Hu1]; · iexact Hu1
    isplitl [Ho] <;> iassumption
  iintro ⟨Hq, Hu0, Hu1, Ho, Hl⟩
  iapply (wp_sent m ρ K c false h hh dl hl0 (sent_eq c false h)) $$ [Hw0 HO Hps0 Hu0]
  · isplitr; · iexact HR
    isplitl [Hw0]; · iexact Hw0
    isplitl [HO]; · iexact HO
    isplitl [Hps0] <;> iassumption
  iintro ⟨HO, Hps0, #Hrs0', Hu0⟩
  iapply (wp_received m ρ K c false h hh dl hl (got_eq c false h)) $$ [Hc0 HO Hpr0]
  · isplitr; · iexact HR
    isplitl [Hc0]; · iexact Hc0
    isplitl [HO] <;> iassumption
  iintro ⟨HO, Hpr0, #Hrr0', Hv0, Hg0⟩
  iapply (wp_sent m ρ K c true h hh dl hl0 (sent_eq c true h)) $$ [Hw1 HO Hps1 Hu1]
  · isplitr; · iexact HR
    isplitl [Hw1]; · iexact Hw1
    isplitl [HO]; · iexact HO
    isplitl [Hps1] <;> iassumption
  iintro ⟨HO, Hps1, #Hrs1', Hu1⟩
  iapply (wp_received m ρ K c true h hh dl hl (got_eq c true h)) $$ [Hc1 HO Hpr1]
  · isplitr; · iexact HR
    isplitl [Hc1]; · iexact Hc1
    isplitl [HO] <;> iassumption
  iintro ⟨HO, Hpr1, #Hrr1', Hv1, Hg1⟩
  iapply Hk
  isplitl [Hps0 Hpr0 Hu0 Hv0 Hg0]
  · isplitl [Hps0 Hpr0]
    · isplitl [Hps0]; · iexact Hps0
      isplitr; · iexact Hrs0'
      isplitl [Hpr0]; · iexact Hpr0
      iexact Hrr0'
    isplitl [Hu0]; · iexact Hu0
    isplitl [Hv0] <;> iassumption
  isplitl [Hps1 Hpr1 Hu1 Hv1 Hg1]
  · isplitl [Hps1 Hpr1]
    · isplitl [Hps1]; · iexact Hps1
      isplitr; · iexact Hrs1'
      isplitl [Hpr1]; · iexact Hpr1
      iexact Hrr1'
    isplitl [Hu1]; · iexact Hu1
    isplitl [Hv1] <;> iassumption
  isplitl [HO]; · iexact HO
  isplitl [Hq]; · iexact Hq
  isplitl [Ho] <;> iassumption

end Wp

end Cert.KernelIdeal.Ring

end
-- ==== Proof.Ideal.Body.lean ====
/-
# The body on one device

From the launch's share of the schedule to the result: the entry, the fill, seven turns, the last addition, the division.
The result is the quotient of two sums over the eight steps.
-/
module

public import proofs.«01_k».proof.Proof.Ideal.Hop

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

variable (m : (ℓ : Loc nD τ sig) → Buf (Elt F) ℓ) (ρ : Dev nD → PrngReg)

/-! ## The values -/

/-- The numerator before step `h`, -/
def accO (c : Dev nD) : ℕ → Vec F S4096x256 .f32
  | 0 => k0_pay62
  | h + 1 => stepO (qstg m ρ c) (slotV m ρ false c h) (slotV m ρ true c h) (accO c h)
/-- the denominator, -/
def accL (c : Dev nD) : ℕ → Vec F S4096x1 .f32
  | 0 => k0_pay61
  | h + 1 => stepL (qstg m ρ c) (slotV m ρ false c h) (slotV m ρ true c h) (accL c h)
/-- and the result. -/
def outV (c : Dev nD) : Vec F S4096x256 .f32 := k0_pay79 (accO m ρ c 8) (accL m ρ c 8)

/-! ## Both directions at once -/

/-- The same for both directions. -/
abbrev both (f : Bool → sProp 𝕄) : sProp 𝕄 := iprop(f false ∗ f true)

theorem sl_next (h : ℕ) : sl (h + 4) = sl h := Fin.ext (by show (h + 4) % 4 = h % 4; omega)

theorem place_next (c : Dev nD) (d : Bool) (h : ℕ) : place (F := F) c d h (h / 4 + 1) = place c d (h + 4) ((h + 4) / 4) := by
  unfold place
  rw [sl_next, show h + 4 + 1 = (h + 1) + 4 from by omega, sl_next, show (h + 4) / 4 = h / 4 + 1 from by omega]

theorem place_reached (c : Dev nD) (d : Bool) (h r : ℕ) :
    place (F := F) c d h r ⊢ iprop(place c d h r ∗ reached ER (cell c (.rcv d (sl (h + 1)))) r) := by
  unfold place
  iintro ⟨Ha, Hb, He, #Hf⟩
  isplitl [Ha Hb He]
  · isplitl [Ha]; · iexact Ha
    isplitl [Hb]; · iexact Hb
    isplitl [He]; · iexact He
    iexact Hf
  iexact Hf

theorem gift_none (c : Dev nD) (d : Bool) (h : ℕ) (hh : ¬ (1 ≤ h ∧ h ≤ 4)) : gift (F := F) c d h = iprop(emp) := if_neg hh

/-- What a device gives away with its transfer of step `h + 1`. -/
theorem gift_give (c : Dev nD) (d : Bool) (h : ℕ) (hh : h ≤ 3) :
    iprop(cur m ρ c (!d) h ∗ reached ER (cell c (.rcv (!d) (sl (h + 1)))) (h / 4 + 1)) ⊢ gift (F := F) c d (h + 1) := by
  unfold gift cur slotE
  rw [if_pos ⟨by omega, by omega⟩, Nat.add_sub_cancel, show h / 4 + 1 = 1 from by omega]
  iintro ⟨H, Hr⟩
  isplitl [H]; · iexists _; iexact H
  iexact Hr

/-- What the gift of step `h` is for. -/
theorem gift_take (c : Dev nD) (d : Bool) (h : ℕ) (h1 : 1 ≤ h) (h4 : h ≤ 4) :
    gift (F := F) (nb (!d) c) d h ⊢ iprop(target c (!d) (h + 2) ∗ ready c (!d) (h + 3)) := by
  unfold gift target ready
  rw [if_pos ⟨h1, h4⟩, show (h + 3) / 4 = 1 from by omega, show h + 3 + 1 = h + 4 from by omega, sl_next,
    show h + 2 + 1 = (h - 1) + 4 from by omega, sl_next]

theorem ready_first (K : Dev nD × Role → ℕ) (c : Dev nD) (d : Bool) (h : ℕ) (hh : h ≤ 3) : records m ρ K ⊢ ready c d h := by
  unfold ready
  rw [show h / 4 = 0 from by omega]
  exact records_reached m ρ K (nb d c) (.rcv d (sl (h + 1)))

/-- What turn `h` opens: at turns 1 to 4 the target of step `h + 2`, and that the neighbour is ready for step `h + 3`. -/
def opened (c : Dev nD) (d : Bool) (h : ℕ) : sProp 𝕄 :=
  if 1 ≤ h ∧ h ≤ 4 then iprop(target c d (h + 2) ∗ ready c d (h + 3)) else iprop(emp)
/-- What turn `h` keeps: from turn 4 on the slot just used. -/
def kept (c : Dev nD) (d : Bool) (h : ℕ) : sProp 𝕄 := if 4 ≤ h then cur m ρ c d h else iprop(emp)

theorem opened_intro (c : Dev nD) (d : Bool) (h : ℕ) : gift (F := F) (nb (!d) c) d h ⊢ opened c (!d) h := by
  unfold opened
  by_cases hh : 1 ≤ h ∧ h ≤ 4
  · rw [if_pos hh]; exact gift_take c d h hh.1 hh.2
  · rw [if_neg hh, gift_none _ _ _ hh]

theorem kept_intro (c : Dev nD) (d : Bool) (h : ℕ) :
    iprop(cur m ρ c (!d) h ∗ reached ER (cell c (.rcv (!d) (sl (h + 1)))) (h / 4 + 1)) ⊢ iprop(gift (F := F) c d (h + 1) ∗ kept m ρ c (!d) h) := by
  unfold kept
  by_cases hh : 4 ≤ h
  · rw [if_pos hh, gift_none _ _ _ (by omega)]
    iintro ⟨H, -⟩
    isplitr; · iempintro
    iexact H
  · rw [if_neg hh]
    iintro H
    isplitl [H]; · iapply (gift_give m ρ c d h (by omega)); iexact H
    iempintro

section Wp

variable (K : Dev nD × Role → ℕ) (c : Dev nD)

/-- A turn: step `h`, and what it leaves put where later steps look for it. -/
theorem wp_turn {Q : PUnit → sProp 𝕄} {k : PUnit → P F PUnit} (h : ℕ) (hh : h ≤ 6) (n n' : Dev nD) (hn : n = nb false c) (hn' : n' = nb true c)
    (lp : Scf.Loop 32) (hok : lp.OK) (ht : lp.trips = 8) (oA oB : Fin lp.trips → Fin 2 → ℕ)
    (hA : ∀ t a, oA t a + S512x256.size a ≤ S4096x256.size a) (hB : ∀ t a, oB t a + S512x1.size a ≤ S4096x1.size a)
    (eA : ∀ t, oA t = ![512 * t.val, 0]) (eB : ∀ t, oB t = ![512 * t.val, 0])
    (dl : List Due) (hl : ∀ x ∈ dl, 2 * h + 2 < x.lvl ∧ x.lvl < 32) :
    iprop(records m ρ K ∗ both (duty c · h) ∗ both (place c · h (h / 4)) ∗ both (target c · h) ∗ both (ready c · h) ∗ both (gift c · h)
        ∗ both (cur m ρ c · h) ∗ owesE c (.snd false h :: .snd true h :: dl) ∗ acc c (qstg m ρ c) (accO m ρ c h) (accL m ρ c h))
      ⊢ iprop(((both (place c · (h + 4) ((h + 4) / 4)) ∗ both (opened c · h) ∗ both (gift c · (h + 1)) ∗ both (cur m ρ c · (h + 1)) ∗ both (kept m ρ c · h)
            ∗ owesE c dl ∗ acc c (qstg m ρ c) (accO m ρ c (h + 1)) (accL m ρ c (h + 1)))
            -∗ wp frame (wpE (defs₀ (F := F)) 𝒱₀ (c : Thread nD τ) none) Set.univ (k ⟨⟩) Q)
          -∗ wp frame (wpE (defs₀ (F := F)) 𝒱₀ (c : Thread nD τ) none) Set.univ (hopP h n n' lp hok oA hA oB hB k) Q) := by
  iintro ⟨#HR, ⟨Hd0, Hd1⟩, ⟨Hp0, Hp1⟩, ⟨Ht0, Ht1⟩, ⟨Hr0, Hr1⟩, ⟨Hg0, Hg1⟩, ⟨Hu0, Hu1⟩, HO, HA⟩ Hk
  iapply (wp_hop m ρ K c h hh n n' hn hn' lp hok ht oA oB hA hB eA eB dl hl _ _ _) $$ [Hd0 Hd1 Hp0 Hp1 Ht0 Ht1 Hr0 Hr1 Hg0 Hg1 Hu0 Hu1 HO HA]
  · isplitr; · iexact HR
    unfold hopPre
    isplitl [Hd0 Hp0 Ht0 Hr0 Hg0]
    · isplitl [Hd0]; · iexact Hd0
      isplitl [Hp0]; · iexact Hp0
      isplitl [Ht0]; · iexact Ht0
      isplitl [Hr0] <;> iassumption
    isplitl [Hd1 Hp1 Ht1 Hr1 Hg1]
    · isplitl [Hd1]; · iexact Hd1
      isplitl [Hp1]; · iexact Hp1
      isplitl [Ht1]; · iexact Ht1
      isplitl [Hr1] <;> iassumption
    isplitl [Hu0]; · iexact Hu0
    isplitl [Hu1]; · iexact Hu1
    isplitl [HO] <;> iassumption
  unfold hopPost
  iintro ⟨⟨Ha0, Hu0, Hv0, Hg0⟩, ⟨Ha1, Hu1, Hv1, Hg1⟩, HO, HA⟩
  ihave Ha0' := (place_reached c false h _) $$ Ha0
  ihave Ha1' := (place_reached c true h _) $$ Ha1
  icases Ha0' with ⟨Ha0, #Hf0⟩
  icases Ha1' with ⟨Ha1, #Hf1⟩
  ihave Hg0' := (opened_intro c false h) $$ Hg0
  ihave Hg1' := (opened_intro c true h) $$ Hg1
  ihave Hu0' := (kept_intro m ρ c true h) $$ [Hu0]
  · isplitl [Hu0]; · iexact Hu0
    iexact Hf0
  ihave Hu1' := (kept_intro m ρ c false h) $$ [Hu1]
  · isplitl [Hu1]; · iexact Hu1
    iexact Hf1
  icases Hu0' with ⟨HG1, HK0⟩
  icases Hu1' with ⟨HG0, HK1⟩
  iapply Hk
  isplitl [Ha0 Ha1]
  · isplitl [Ha0]
    · iapply (Entails.of_eq (place_next c false h)); iexact Ha0
    · iapply (Entails.of_eq (place_next c true h)); iexact Ha1
  isplitl [Hg0' Hg1']
  · isplitl [Hg1']; · iexact Hg1'
    iexact Hg0'
  isplitl [HG0 HG1]
  · isplitl [HG0]; · iexact HG0
    iexact HG1
  isplitl [Hv0 Hv1]
  · isplitl [Hv0]; · iexact Hv0
    iexact Hv1
  isplitl [HK0 HK1]
  · isplitl [HK0]; · iexact HK0
    iexact HK1
  isplitl [HO]; · iexact HO
  iexact HA

end Wp

end Cert.KernelIdeal.Ring

end
-- ==== Proof.Ideal.Ends.lean ====
/-
# The body, from start to finish

What a device holds when its body starts, what it holds when the body ends, and the run from the one to the other.
-/
module

public import proofs.«01_k».proof.Proof.Ideal.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

variable (m : (ℓ : Loc nD τ sig) → Buf (Elt F) ℓ) (ρ : Dev nD → PrngReg)

/-! ## The neighbours, as the program computes them -/

theorem left_of (c : Dev nD) : ∀ n ∈ ([⟨k0_dev1 c, k0_dev1_lt c⟩, ⟨k0_dev4 c, k0_dev4_lt c⟩, ⟨k0_dev5 c, k0_dev5_lt c⟩, ⟨k0_dev8 c, k0_dev8_lt c⟩,
    ⟨k0_dev9 c, k0_dev9_lt c⟩, ⟨k0_dev12 c, k0_dev12_lt c⟩, ⟨k0_dev13 c, k0_dev13_lt c⟩, ⟨k0_dev16 c, k0_dev16_lt c⟩, ⟨k0_dev17 c, k0_dev17_lt c⟩,
    ⟨k0_dev20 c, k0_dev20_lt c⟩, ⟨k0_dev22 c, k0_dev22_lt c⟩, ⟨k0_dev24 c, k0_dev24_lt c⟩] : List (Dev nD)), n = nb true c := by
  revert c; decide +kernel
theorem right_of (c : Dev nD) : ∀ n ∈ ([⟨k0_dev2 c, k0_dev2_lt c⟩, ⟨k0_dev3 c, k0_dev3_lt c⟩, ⟨k0_dev6 c, k0_dev6_lt c⟩, ⟨k0_dev7 c, k0_dev7_lt c⟩,
    ⟨k0_dev10 c, k0_dev10_lt c⟩, ⟨k0_dev11 c, k0_dev11_lt c⟩, ⟨k0_dev14 c, k0_dev14_lt c⟩, ⟨k0_dev15 c, k0_dev15_lt c⟩, ⟨k0_dev18 c, k0_dev18_lt c⟩,
    ⟨k0_dev19 c, k0_dev19_lt c⟩, ⟨k0_dev21 c, k0_dev21_lt c⟩, ⟨k0_dev23 c, k0_dev23_lt c⟩] : List (Dev nD)), n = nb false c := by
  revert c; decide +kernel

/-! ## The fill -/

theorem window_half (d : Bool) (x : Vec F S4096x256 .bf16) (hb : ∀ b, (![half d, 0] : Fin 2 → ℕ) b + S2048x256.size b ≤ S4096x256.size b) :
    window (s := S4096x256) x ![half d, 0] S2048x256.size hb = halfOf d x := by
  funext y
  refine congrArg x (funext fun a => Fin.ext ?_)
  match a with
  | ⟨0, _⟩ => show half d + 1 * (y 0).val = half d + (y 0).val; omega
  | ⟨1, _⟩ => show 0 + 1 * (y 1).val = (y 1).val; omega

theorem window_all {sh : Shape} {α : Type} (x : sh.Idx → α) (off : Fin sh.rank → ℕ) (inb : ∀ a, off a + sh.size a ≤ sh.size a) :
    window x off sh.size inb = x := funext fun y => congrArg x (Rect.emb_unit_full inb y)

theorem put_all {sh : Shape} {α : Type} (x : sh.Idx → α) (off : Fin sh.rank → ℕ) (inb : ∀ a, off a + sh.size a ≤ sh.size a) (w : sh.Idx → α) :
    put x off sh.size w = w := by
  have h0 : ∀ a, off a = 0 := fun a => by have := inb a; omega
  funext y
  refine (dif_pos fun a => ⟨by rw [h0]; exact Nat.zero_le _, by rw [h0, Nat.zero_add]; exact (y a).isLt⟩).trans ?_
  refine congrArg w (funext fun a => Fin.ext ?_)
  show (y a).val - off a = (y a).val
  rw [h0, Nat.sub_zero]

section Wp

variable (K : Dev nD × Role → ℕ) (c : Dev nD)

theorem wp_fillOp {Q : PUnit → sProp 𝕄} {k : PUnit → P F PUnit} (M : Memref sig .tc .vmem S4096x256 .bf16) (d : Bool) (a : Fin 2)
    (hb : ∀ b, (![half d, 0] : Fin 2 → ℕ) b + S2048x256.size b ≤ S4096x256.size b)
    (pay : Vec F S2048x256 .bf16 → Vec F S1x1x2048x256 .bf16) (hx : ((kvM d).access (partR 0 a)).Stores Finset.univ)
    (x : Vec F S4096x256 .bf16) (y : Vec F S2x2048x256 .bf16) :
    iprop(owns (c : Thread nD τ) M fullShare x ∗ slotP c d 0 fullShare y)
      ⊢ iprop(((owns (c : Thread nD τ) M fullShare x ∗ slotP c d 0 fullShare (setPart y a (pay (halfOf d x))))
            -∗ wp frame (wpE (defs₀ (F := F)) 𝒱₀ (c : Thread nD τ) none) Set.univ (k ⟨⟩) Q)
          -∗ wp frame (wpE (defs₀ (F := F)) 𝒱₀ (c : Thread nD τ) none) Set.univ (fillOp M d a hb pay hx k) Q) := by
  unfold fillOp
  iintro ⟨Hx, Hy⟩ Hk
  iapply (wp_read c M _ _ hb rfl hb) $$ Hx; iintro Hx
  rw [window_half]
  iapply (wp_readPart c d 0 a _ _) $$ Hy; iintro Hy
  iapply (wp_writePart c d 0 a _ _) $$ Hy; iintro Hy
  iapply Hk
  isplitl [Hx] <;> iassumption

/-- The device's own halves in the first slots, and the accumulators at zero. -/
theorem wp_fill {Q : PUnit → sProp 𝕄} {k : PUnit → P F PUnit} (o : Vec F S4096x256 .f32) (l : Vec F S4096x1 .f32) :
    iprop(owns (c : Thread nD τ) kM fullShare (kstg m ρ c) ∗ owns (c : Thread nD τ) vM fullShare (vstg m ρ c)
        ∗ both (fun d => slotE (F := F) c d 0) ∗ owns (c : Thread nD τ) oM fullShare o ∗ owns (c : Thread nD τ) lM fullShare l)
      ⊢ iprop(((owns (c : Thread nD τ) kM fullShare (kstg m ρ c) ∗ owns (c : Thread nD τ) vM fullShare (vstg m ρ c)
            ∗ both (cur m ρ c · 0) ∗ owns (c : Thread nD τ) oM fullShare (accO m ρ c 0) ∗ owns (c : Thread nD τ) lM fullShare (accL m ρ c 0))
            -∗ wp frame (wpE (defs₀ (F := F)) 𝒱₀ (c : Thread nD τ) none) Set.univ (k ⟨⟩) Q)
          -∗ wp frame (wpE (defs₀ (F := F)) 𝒱₀ (c : Thread nD τ) none) Set.univ (fillP k) Q) := by
  unfold fillP slotE
  iintro ⟨HK, HV, ⟨⟨%x0, H0⟩, ⟨%x1, H1⟩⟩, Ho, Hl⟩ Hk
  iapply (wp_fillOp c kM false 0 _ _ _ _ x0) $$ [HK H0]
  · isplitl [HK] <;> iassumption
  iintro ⟨HK, H0⟩
  iapply (wp_fillOp c vM false 1 _ _ _ _ _) $$ [HV H0]
  · isplitl [HV] <;> iassumption
  iintro ⟨HV, H0⟩
  iapply (wp_fillOp c kM true 0 _ _ _ _ x1) $$ [HK H1]
  · isplitl [HK] <;> iassumption
  iintro ⟨HK, H1⟩
  iapply (wp_fillOp c vM true 1 _ _ _ _ _) $$ [HV H1]
  · isplitl [HV] <;> iassumption
  iintro ⟨HV, H1⟩
  iapply (wp_read c lM _ _ inb_S4096x1_S4096x1_0_0 rfl inb_S4096x1_S4096x1_0_0) $$ Hl; iintro Hl
  iapply (wp_write c lM _ inb_S4096x1_S4096x1_0_0 rfl _) $$ Hl; iintro Hl
  iapply (wp_read c oM _ _ inb_S4096x256_S4096x256_0_0 rfl inb_S4096x256_S4096x256_0_0) $$ Ho; iintro Ho
  iapply (wp_write c oM _ inb_S4096x256_S4096x256_0_0 rfl _) $$ Ho; iintro Ho
  rw [put_all o ![0, 0] inb_S4096x256_S4096x256_0_0, put_all l ![0, 0] inb_S4096x1_S4096x1_0_0]
  iapply Hk
  isplitl [HK]; · iexact HK
  isplitl [HV]; · iexact HV
  isplitl [H0 H1]
  · unfold cur
    isplitl [H0]
    · iapply (Entails.of_eq (congrArg (slotP c false 0 fullShare) ?_)) $$ H0
      unfold k0_pay57 k0_pay58
      dsimp only
      rw [shapeCast_self, shapeCast_self, setPart_pair]; rfl
    · iapply (Entails.of_eq (congrArg (slotP c true 0 fullShare) ?_)) $$ H1
      unfold k0_pay59 k0_pay60
      dsimp only
      rw [shapeCast_self, shapeCast_self, setPart_pair]; rfl
  isplitl [Ho]; · iexact Ho
  iexact Hl

/-! ## The credits -/

/-- The two credit units after step `i`. -/
theorem wp_units {Q : PUnit → sProp 𝕄} {k : PUnit → P F PUnit} (i : ℕ) (n n' : Dev nD) (hn : n = nb true c) (hn' : n' = nb false c) (dl : List Due) :
    iprop(records m ρ K ∗ both (fun d => dutyTok ER (cell (nb (!d) c) (.cr d)) 0 (sl i)) ∗ owesE c (.cr false i :: .cr true i :: dl))
      ⊢ iprop((owesE c dl -∗ wp frame (wpE (defs₀ (F := F)) 𝒱₀ (c : Thread nD τ) none) Set.univ (k ⟨⟩) Q)
          -∗ wp frame (wpE (defs₀ (F := F)) 𝒱₀ (c : Thread nD τ) none) Set.univ (unitOp (crS false) n fun _ => unitOp (crS true) n' k) Q) := by
  unfold unitOp
  iintro ⟨#HR, ⟨Ht0, Ht1⟩, HO⟩ Hk
  iapply (wp_credit m ρ K c false i n hn (crS false) rfl 1 rfl (.cr true i :: dl)) $$ [HO Ht0]
  · isplitr; · iexact HR
    isplitl [HO]; · iexact HO
    iexact Ht0
  iintro HO
  iapply (wp_credit m ρ K c true i n' hn' (crS true) rfl 1 rfl dl) $$ [HO Ht1]
  · isplitr; · iexact HR
    isplitl [HO]; · iexact HO
    iexact Ht1
  iexact Hk

theorem need_eq (d : Bool) (Kt : PUnit → sProp 𝕄) :
    wpE (defs₀ (F := F)) 𝒱₀ (c : Thread nD τ) none Set.univ (.semWait (crS d) ((1 : ℕ) : ℤ)) Kt = waitSpec (c : Thread nD τ) Set.univ (sem (.cr d)) (1 : ℕ) Kt := by
  cases d <;> rfl

/-- The two waits for credit before step `i + 3`; -/
theorem wp_needs {Q : PUnit → sProp 𝕄} {k : PUnit → P F PUnit} (i : ℕ) (hi : i ≤ 2) (dl : List Due) (hl : ∀ x ∈ dl, 2 * i + 3 < x.lvl ∧ x.lvl < 32) :
    iprop(records m ρ K ∗ both (fun d => cred (tallyAt (cell c (.cr d)) (2 * i + 3) 1)) ∗ owesE c dl ∗ both (crPos (F := F) c · i))
      ⊢ iprop(((owesE c dl ∗ both (crPos (F := F) c · (i + 1))) -∗ wp frame (wpE (defs₀ (F := F)) 𝒱₀ (c : Thread nD τ) none) Set.univ (k ⟨⟩) Q)
          -∗ wp frame (wpE (defs₀ (F := F)) 𝒱₀ (c : Thread nD τ) none) Set.univ (needOp (crS false) 1 fun _ => needOp (crS true) 1 k) Q) := by
  unfold needOp
  iintro ⟨#HR, ⟨Hc0, Hc1⟩, HO, ⟨Hp0, Hp1⟩⟩ Hk
  iapply (wp_credited m ρ K c false i hi dl hl 1 rfl (need_eq c false)) $$ [HO Hc0 Hp0]
  · isplitr; · iexact HR
    isplitl [Hc0]; · iexact Hc0
    isplitl [HO]; · iexact HO
    iexact Hp0
  iintro ⟨HO, Hp0⟩
  iapply (wp_credited m ρ K c true i hi dl hl 1 rfl (need_eq c true)) $$ [HO Hc1 Hp1]
  · isplitr; · iexact HR
    isplitl [Hc1]; · iexact Hc1
    isplitl [HO]; · iexact HO
    iexact Hp1
  iintro ⟨HO, Hp1⟩
  iapply Hk
  isplitl [HO]; · iexact HO
  isplitl [Hp0]; · iexact Hp0
  iexact Hp1

/-- the last two. -/
theorem wp_needs_last {Q : PUnit → sProp 𝕄} {k : PUnit → P F PUnit} (dl : List Due) (hl : ∀ x ∈ dl, 9 < x.lvl ∧ x.lvl < 32) :
    iprop(records m ρ K ∗ both (fun d => cred (tallyAt (cell c (.cr d)) 9 1)) ∗ owesE c dl ∗ both (crPos (F := F) c · 3))
      ⊢ iprop(((owesE c dl ∗ both (fun d => atPos ER (cell c (.cr d)) 1 ∅ 0)) -∗ wp frame (wpE (defs₀ (F := F)) 𝒱₀ (c : Thread nD τ) none) Set.univ (k ⟨⟩) Q)
          -∗ wp frame (wpE (defs₀ (F := F)) 𝒱₀ (c : Thread nD τ) none) Set.univ (needOp (crS false) 1 fun _ => needOp (crS true) 1 k) Q) := by
  unfold needOp
  iintro ⟨#HR, ⟨Hc0, Hc1⟩, HO, ⟨Hp0, Hp1⟩⟩ Hk
  iapply (wp_credited_last m ρ K c false dl hl 1 rfl (need_eq c false)) $$ [HO Hc0 Hp0]
  · isplitr; · iexact HR
    isplitl [Hc0]; · iexact Hc0
    isplitl [HO]; · iexact HO
    iexact Hp0
  iintro ⟨HO, Hp0⟩
  iapply (wp_credited_last m ρ K c true dl hl 1 rfl (need_eq c true)) $$ [HO Hc1 Hp1]
  · isplitr; · iexact HR
    isplitl [Hc1]; · iexact Hc1
    isplitl [HO]; · iexact HO
    iexact Hp1
  iintro ⟨HO, Hp1⟩
  iapply Hk
  isplitl [HO]; · iexact HO
  isplitl [Hp0]; · iexact Hp0
  iexact Hp1

/-- The division. -/
theorem wp_close {Q : PUnit → sProp 𝕄} (o : Vec F S4096x256 .f32) (l : Vec F S4096x1 .f32) :
    iprop(owns (c : Thread nD τ) oM fullShare o ∗ owns (c : Thread nD τ) lM fullShare l)
      ⊢ iprop(((owns (c : Thread nD τ) oM fullShare (k0_pay79 o l) ∗ owns (c : Thread nD τ) lM fullShare l) -∗ |={Set.univ}=> Q ⟨⟩)
          -∗ wp frame (wpE (defs₀ (F := F)) 𝒱₀ (c : Thread nD τ) none) Set.univ closeP Q) := by
  unfold closeP
  iintro ⟨Ho, Hl⟩ Hk
  iapply (wp_read c oM _ _ inb_S4096x256_S4096x256_0_0 rfl inb_S4096x256_S4096x256_0_0) $$ Ho; iintro Ho
  iapply (wp_read c lM _ _ inb_S4096x1_S4096x1_0_0 rfl inb_S4096x1_S4096x1_0_0) $$ Hl; iintro Hl
  iapply (wp_read c oM _ _ inb_S4096x256_S4096x256_0_0 rfl inb_S4096x256_S4096x256_0_0) $$ Ho; iintro Ho
  iapply (wp_write c oM _ inb_S4096x256_S4096x256_0_0 rfl _) $$ Ho; iintro Ho
  rw [put_all o ![0, 0] inb_S4096x256_S4096x256_0_0, window_all, window_all, wp_ret]
  iapply Hk
  isplitl [Ho] <;> iassumption

end Wp

end Cert.KernelIdeal.Ring

end
-- ==== Proof.Ideal.Whole.lean ====
/-
# The run of the body

What a device holds when its body starts, what it holds when the body ends, and the run from the one to the other.
-/
module

public import proofs.«01_k».proof.Proof.Ideal.Ends

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

variable (m : (ℓ : Loc nD τ sig) → Buf (Elt F) ℓ) (ρ : Dev nD → PrngReg)

/-- A direction's four slots. -/
def slots (c : Dev nD) (d : Bool) : sProp 𝕄 := iprop(slotE c d 0 ∗ slotE c d 1 ∗ slotE c d 2 ∗ slotE c d 3)
/-- The payments of the credit units of step `i`, -/
abbrev fee (c : Dev nD) (d : Bool) (i : ℕ) : sProp 𝕄 := dutyTok ER (cell (nb (!d) c) (.cr d)) 0 (sl i)
/-- and the credit on which the wait for one draws. -/
abbrev draw (c : Dev nD) (d : Bool) (i : ℕ) : sProp 𝕄 := cred (tallyAt (cell c (.cr d)) (2 * i + 3) 1)

/-- A device's part of the schedule. -/
def sched (c : Dev nD) : sProp 𝕄 :=
  iprop((atPos ER (cell c .bar) 0 ∅ 0 ∗ both (crPos (F := F) c · 0))
    ∗ both (fun d => dutyTok ER (cell (nb (!d) c) .bar) 0 (bd d))
    ∗ (cred (tallyAt (cell c .bar) 1 1) ∗ cred (tallyAt (cell c .bar) 1 1))
    ∗ (both (fee (F := F) c · 0) ∗ both (fee (F := F) c · 1) ∗ both (fee (F := F) c · 2) ∗ both (fee (F := F) c · 3))
    ∗ (both (draw (F := F) c · 0) ∗ both (draw (F := F) c · 1) ∗ both (draw (F := F) c · 2) ∗ both (draw (F := F) c · 3))
    ∗ (both (place (F := F) c · 0 0) ∗ both (place (F := F) c · 1 0) ∗ both (place (F := F) c · 2 0) ∗ both (place (F := F) c · 3 0))
    ∗ (both (duty (F := F) c · 0) ∗ both (duty (F := F) c · 1) ∗ both (duty (F := F) c · 2) ∗ both (duty (F := F) c · 3)
      ∗ both (duty (F := F) c · 4) ∗ both (duty (F := F) c · 5) ∗ both (duty (F := F) c · 6)))

/-- The staged inputs. -/
def staged (c : Dev nD) : sProp 𝕄 :=
  iprop(owns (c : Thread nD τ) qM fullShare (qstg m ρ c) ∗ owns (c : Thread nD τ) kM fullShare (kstg m ρ c) ∗ owns (c : Thread nD τ) vM fullShare (vstg m ρ c))

/-- The schedule behind the device: all its semaphores past their last round. -/
def past (c : Dev nD) : sProp 𝕄 :=
  iprop((atPos ER (cell c .bar) 1 ∅ 0 ∗ both (fun d => atPos ER (cell c (.cr d)) 1 ∅ 0))
    ∗ (both (place (F := F) c · 8 2) ∗ both (place (F := F) c · 9 2) ∗ both (place (F := F) c · 10 2) ∗ both (place (F := F) c · 7 1)))

section Wp

variable (K : Dev nD × Role → ℕ) (c : Dev nD)

theorem enter_eq (Kt : PUnit → sProp 𝕄) :
    wpE (defs₀ (F := F)) 𝒱₀ (c : Thread nD τ) none Set.univ (.semWait barS ((2 : ℕ) : ℤ)) Kt = waitSpec (c : Thread nD τ) Set.univ (sem .bar) (2 : ℕ) Kt := rfl

/-- The barrier: both neighbours' slots 1, 2 and 3 are free. -/
theorem wp_gate {Q : PUnit → sProp 𝕄} {k : PUnit → P F PUnit} (n n' : Dev nD) (hn : n = nb true c) (hn' : n' = nb false c)
    (dl : List Due) (hl : ∀ x ∈ dl, 1 < x.lvl ∧ x.lvl < 32) :
    iprop(records m ρ K ∗ owesE c (.bar false :: .bar true :: dl) ∗ atPos ER (cell c .bar) 0 ∅ 0
        ∗ both (fun d => dutyTok ER (cell (nb (!d) c) .bar) 0 (bd d)) ∗ (cred (tallyAt (cell c .bar) 1 1) ∗ cred (tallyAt (cell c .bar) 1 1))
        ∗ both (slots (F := F) c ·))
      ⊢ iprop(((owesE c dl ∗ atPos ER (cell c .bar) 1 ∅ 0 ∗ both (fun d => slotE (F := F) c d 0)
            ∗ both (target (F := F) c · 0) ∗ both (target (F := F) c · 1) ∗ both (target (F := F) c · 2))
            -∗ wp frame (wpE (defs₀ (F := F)) 𝒱₀ (c : Thread nD τ) none) Set.univ (k ⟨⟩) Q)
          -∗ wp frame (wpE (defs₀ (F := F)) 𝒱₀ (c : Thread nD τ) none) Set.univ
              (unitOp barS n fun _ => unitOp barS n' fun _ => needOp barS 2 k) Q) := by
  unfold unitOp needOp slots
  iintro ⟨#HR, HO, Hp, ⟨Ht0, Ht1⟩, Hc, ⟨⟨Ha0, Ha1, Ha2, Ha3⟩, ⟨Hb0, Hb1, Hb2, Hb3⟩⟩⟩ Hk
  iapply (wp_enter m ρ K c false n hn barS rfl 1 rfl (.bar true :: dl)) $$ [HO Ht0 Ha1 Ha2 Ha3]
  · isplitr; · iexact HR
    isplitl [HO]; · iexact HO
    isplitl [Ht0]; · iexact Ht0
    isplitl [Ha1]; · iexact Ha1
    isplitl [Ha2] <;> iassumption
  iintro HO
  iapply (wp_enter m ρ K c true n' hn' barS rfl 1 rfl dl) $$ [HO Ht1 Hb1 Hb2 Hb3]
  · isplitr; · iexact HR
    isplitl [HO]; · iexact HO
    isplitl [Ht1]; · iexact Ht1
    isplitl [Hb1]; · iexact Hb1
    isplitl [Hb2] <;> iassumption
  iintro HO
  iapply (wp_entered m ρ K c dl hl 2 rfl (enter_eq c)) $$ [HO Hc Hp]
  · isplitr; · iexact HR
    isplitl [Hc]; · iexact Hc
    isplitl [HO] <;> iassumption
  unfold barPay
  iintro ⟨HO, Hp, ⟨Ha1, Ha2, Ha3⟩, ⟨Hb1, Hb2, Hb3⟩⟩
  iapply Hk
  unfold target
  isplitl [HO]; · iexact HO
  isplitl [Hp]; · iexact Hp
  isplitl [Ha0 Hb0]
  · isplitl [Ha0]; · iexact Ha0
    iexact Hb0
  isplitl [Ha1 Hb1]
  · isplitl [Ha1]; · iexact Ha1
    iexact Hb1
  isplitl [Ha2 Hb2]
  · isplitl [Ha2]; · iexact Ha2
    iexact Hb2
  isplitl [Ha3]; · iexact Ha3
  iexact Hb3

theorem both_ready (h : ℕ) (hh : h ≤ 3) : records m ρ K ⊢ both (ready (F := F) c · h) := by
  iintro #HR
  isplitr; · iapply (ready_first m ρ K c false h hh); iexact HR
  iapply (ready_first m ρ K c true h hh); iexact HR

theorem both_opened (h : ℕ) (h1 : 1 ≤ h) (h4 : h ≤ 4) :
    both (opened (F := F) c · h) ⊢ iprop(both (target (F := F) c · (h + 2)) ∗ both (ready (F := F) c · (h + 3))) := by
  unfold opened both
  simp only [if_pos (And.intro h1 h4)]
  iintro ⟨⟨Ha, Hb⟩, ⟨Hc, Hd⟩⟩
  isplitl [Ha Hc]
  · isplitl [Ha]; · iexact Ha
    iexact Hc
  isplitl [Hb]; · iexact Hb
  iexact Hd

theorem both_kept (h : ℕ) (h4 : 4 ≤ h) : both (kept m ρ c · h) ⊢ both (cur m ρ c · h) := by
  unfold kept both
  simp only [if_pos h4]
  exact BI.Entails.refl _

theorem no_gift : (iprop(emp) : sProp 𝕄) ⊢ both (gift (F := F) c · 0) := by
  show _ ⊢ iprop(gift c false 0 ∗ gift c true 0)
  rw [gift_none c false 0 (by decide), gift_none c true 0 (by decide)]
  iintro H
  isplitl [H]; · iexact H
  iempintro

set_option maxHeartbeats 1600000 in
/-- The body's run. -/
theorem wp_ring {Q : PUnit → sProp 𝕄} (o : Vec F S4096x256 .f32) (l : Vec F S4096x1 .f32) :
    iprop(records m ρ K ∗ owesE c dues ∗ sched (F := F) c ∗ both (slots (F := F) c ·) ∗ staged m ρ c
        ∗ owns (c : Thread nD τ) oM fullShare o ∗ owns (c : Thread nD τ) lM fullShare l)
      ⊢ iprop(((owesE c [] ∗ past (F := F) c ∗ both (slots (F := F) c ·) ∗ staged m ρ c
            ∗ owns (c : Thread nD τ) oM fullShare (outV m ρ c) ∗ owns (c : Thread nD τ) lM fullShare (accL m ρ c 8)) -∗ |={Set.univ}=> Q ⟨⟩)
          -∗ wp frame (wpE (defs₀ (F := F)) 𝒱₀ (c : Thread nD τ) none) Set.univ (ringP c) Q) := by
  unfold sched staged ringP
  iintro ⟨#HR, HO, ⟨⟨Hbar, Hcp⟩, Hbt, Hbc, ⟨Hf0, Hf1, Hf2, Hf3⟩, ⟨Hw0, Hw1, Hw2, Hw3⟩, ⟨Hp0, Hp1, Hp2, Hp3⟩, ⟨Hd0, Hd1, Hd2, Hd3, Hd4, Hd5, Hd6⟩⟩,
    Hsl, ⟨Hq, Hkk, Hvv⟩, Ho, Hl⟩ Hk
  iapply (wp_gate m ρ K c _ _ (left_of c _ (by simp)) (right_of c _ (by simp)) (dues.drop 2) (by decide)) $$ [HO Hbar Hbt Hbc Hsl]
  · isplitr; · iexact HR
    isplitl [HO]; · iexact HO
    isplitl [Hbar]; · iexact Hbar
    isplitl [Hbt]; · iexact Hbt
    isplitl [Hbc]; · iexact Hbc
    iexact Hsl
  iintro ⟨HO, Hbar, Hsl, Ht0, Ht1, Ht2⟩
  iapply (wp_fill m ρ c o l) $$ [Hkk Hvv Hsl Ho Hl]
  · isplitl [Hkk]; · iexact Hkk
    isplitl [Hvv]; · iexact Hvv
    isplitl [Hsl]; · iexact Hsl
    isplitl [Ho]; · iexact Ho
    iexact Hl
  iintro ⟨Hkk, Hvv, Hu, Ho, Hl⟩
  ihave Hr0 := (both_ready m ρ K c 0 (by decide)) $$ HR
  ihave Hr1 := (both_ready m ρ K c 1 (by decide)) $$ HR
  ihave Hr2 := (both_ready m ρ K c 2 (by decide)) $$ HR
  ihave Hr3 := (both_ready m ρ K c 3 (by decide)) $$ HR
  -- turn 0
  iapply (wp_turn m ρ K c 0 (by decide) _ _ (right_of c _ (by simp)) (left_of c _ (by simp)) k0_t1_loop k0_t1_ok (by decide +kernel) k0_off1 k0_off2 k0_off1_inb k0_off2_inb k0_off1_eq k0_off2_eq (dues.drop 4) (by decide)) $$ [HO Hd0 Hp0 Ht0 Hr0 Hu Hq Ho Hl]
  · isplitr; · iexact HR
    isplitl [Hd0]; · iexact Hd0
    isplitl [Hp0]; · iexact Hp0
    isplitl [Ht0]; · iexact Ht0
    isplitl [Hr0]; · iexact Hr0
    isplitr; · iapply (no_gift c); iempintro
    isplitl [Hu]; · iexact Hu
    isplitl [HO]; · iexact HO
    unfold acc
    isplitl [Hq]; · iexact Hq
    isplitl [Ho]; · iexact Ho
    iexact Hl
  iintro ⟨Hp4, -, Hg, Hu, -, HO, HA⟩
  iapply (wp_units m ρ K c 0 _ _ (left_of c _ (by simp)) (right_of c _ (by simp)) _) $$ [HO Hf0]
  · isplitr; · iexact HR
    isplitl [Hf0]; · iexact Hf0
    iexact HO
  iintro HO
  -- turn 1
  iapply (wp_turn m ρ K c 1 (by decide) _ _ (right_of c _ (by simp)) (left_of c _ (by simp)) k0_t2_loop k0_t2_ok (by decide +kernel) k0_off3 k0_off4 k0_off3_inb k0_off4_inb k0_off3_eq k0_off4_eq (dues.drop 8) (by decide)) $$ [HO Hd1 Hp1 Ht1 Hr1 Hg Hu HA]
  · isplitr; · iexact HR
    isplitl [Hd1]; · iexact Hd1
    isplitl [Hp1]; · iexact Hp1
    isplitl [Ht1]; · iexact Ht1
    isplitl [Hr1]; · iexact Hr1
    isplitl [Hg]; · iexact Hg
    isplitl [Hu]; · iexact Hu
    isplitl [HO]; · iexact HO
    iexact HA
  iintro ⟨Hp5, Hop, Hg, Hu, -, HO, HA⟩
  ihave Hop' := (both_opened c 1 (by decide) (by decide)) $$ Hop
  icases Hop' with ⟨Ht3, Hr4⟩
  iapply (wp_units m ρ K c 1 _ _ (left_of c _ (by simp)) (right_of c _ (by simp)) _) $$ [HO Hf1]
  · isplitr; · iexact HR
    isplitl [Hf1]; · iexact Hf1
    iexact HO
  iintro HO
  -- turn 2
  iapply (wp_turn m ρ K c 2 (by decide) _ _ (right_of c _ (by simp)) (left_of c _ (by simp)) k0_t3_loop k0_t3_ok (by decide +kernel) k0_off5 k0_off6 k0_off5_inb k0_off6_inb k0_off5_eq k0_off6_eq (dues.drop 12) (by decide)) $$ [HO Hd2 Hp2 Ht2 Hr2 Hg Hu HA]
  · isplitr; · iexact HR
    isplitl [Hd2]; · iexact Hd2
    isplitl [Hp2]; · iexact Hp2
    isplitl [Ht2]; · iexact Ht2
    isplitl [Hr2]; · iexact Hr2
    isplitl [Hg]; · iexact Hg
    isplitl [Hu]; · iexact Hu
    isplitl [HO]; · iexact HO
    iexact HA
  iintro ⟨Hp6, Hop, Hg, Hu, -, HO, HA⟩
  ihave Hop' := (both_opened c 2 (by decide) (by decide)) $$ Hop
  icases Hop' with ⟨Ht4, Hr5⟩
  iapply (wp_units m ρ K c 2 _ _ (left_of c _ (by simp)) (right_of c _ (by simp)) _) $$ [HO Hf2]
  · isplitr; · iexact HR
    isplitl [Hf2]; · iexact Hf2
    iexact HO
  iintro HO
  -- turn 3
  iapply (wp_needs m ρ K c 0 (by decide) (dues.drop 14) (by decide)) $$ [HO Hw0 Hcp]
  · isplitr; · iexact HR
    isplitl [Hw0]; · iexact Hw0
    isplitl [HO]; · iexact HO
    iexact Hcp
  iintro ⟨HO, Hcp⟩
  iapply (wp_turn m ρ K c 3 (by decide) _ _ (right_of c _ (by simp)) (left_of c _ (by simp)) k0_t4_loop k0_t4_ok (by decide +kernel) k0_off7 k0_off8 k0_off7_inb k0_off8_inb k0_off7_eq k0_off8_eq (dues.drop 16) (by decide)) $$ [HO Hd3 Hp3 Ht3 Hr3 Hg Hu HA]
  · isplitr; · iexact HR
    isplitl [Hd3]; · iexact Hd3
    isplitl [Hp3]; · iexact Hp3
    isplitl [Ht3]; · iexact Ht3
    isplitl [Hr3]; · iexact Hr3
    isplitl [Hg]; · iexact Hg
    isplitl [Hu]; · iexact Hu
    isplitl [HO]; · iexact HO
    iexact HA
  iintro ⟨Hp7, Hop, Hg, Hu, -, HO, HA⟩
  ihave Hop' := (both_opened c 3 (by decide) (by decide)) $$ Hop
  icases Hop' with ⟨Ht5, Hr6⟩
  iapply (wp_units m ρ K c 3 _ _ (left_of c _ (by simp)) (right_of c _ (by simp)) _) $$ [HO Hf3]
  · isplitr; · iexact HR
    isplitl [Hf3]; · iexact Hf3
    iexact HO
  iintro HO
  -- turn 4
  iapply (wp_needs m ρ K c 1 (by decide) (dues.drop 18) (by decide)) $$ [HO Hw1 Hcp]
  · isplitr; · iexact HR
    isplitl [Hw1]; · iexact Hw1
    isplitl [HO]; · iexact HO
    iexact Hcp
  iintro ⟨HO, Hcp⟩
  iapply (wp_turn m ρ K c 4 (by decide) _ _ (right_of c _ (by simp)) (left_of c _ (by simp)) k0_t5_loop k0_t5_ok (by decide +kernel) k0_off9 k0_off10 k0_off9_inb k0_off10_inb k0_off9_eq k0_off10_eq (dues.drop 20) (by decide)) $$ [HO Hd4 Hp4 Ht4 Hr4 Hg Hu HA]
  · isplitr; · iexact HR
    isplitl [Hd4]; · iexact Hd4
    isplitl [Hp4]; · iexact Hp4
    isplitl [Ht4]; · iexact Ht4
    isplitl [Hr4]; · iexact Hr4
    isplitl [Hg]; · iexact Hg
    isplitl [Hu]; · iexact Hu
    isplitl [HO]; · iexact HO
    iexact HA
  iintro ⟨Hp8, Hop, Hg, Hu, Hk4, HO, HA⟩
  ihave Hop' := (both_opened c 4 (by decide) (by decide)) $$ Hop
  icases Hop' with ⟨Ht6, -⟩
  -- turn 5
  iapply (wp_needs m ρ K c 2 (by decide) (dues.drop 20) (by decide)) $$ [HO Hw2 Hcp]
  · isplitr; · iexact HR
    isplitl [Hw2]; · iexact Hw2
    isplitl [HO]; · iexact HO
    iexact Hcp
  iintro ⟨HO, Hcp⟩
  iapply (wp_turn m ρ K c 5 (by decide) _ _ (right_of c _ (by simp)) (left_of c _ (by simp)) k0_t6_loop k0_t6_ok (by decide +kernel) k0_off11 k0_off12 k0_off11_inb k0_off12_inb k0_off11_eq k0_off12_eq (dues.drop 22) (by decide)) $$ [HO Hd5 Hp5 Ht5 Hr5 Hg Hu HA]
  · isplitr; · iexact HR
    isplitl [Hd5]; · iexact Hd5
    isplitl [Hp5]; · iexact Hp5
    isplitl [Ht5]; · iexact Ht5
    isplitl [Hr5]; · iexact Hr5
    isplitl [Hg]; · iexact Hg
    isplitl [Hu]; · iexact Hu
    isplitl [HO]; · iexact HO
    iexact HA
  iintro ⟨Hp9, -, Hg, Hu, Hk5, HO, HA⟩
  -- turn 6
  iapply (wp_needs_last m ρ K c (dues.drop 22) (by decide)) $$ [HO Hw3 Hcp]
  · isplitr; · iexact HR
    isplitl [Hw3]; · iexact Hw3
    isplitl [HO]; · iexact HO
    iexact Hcp
  iintro ⟨HO, Hcp⟩
  iapply (wp_turn m ρ K c 6 (by decide) _ _ (right_of c _ (by simp)) (left_of c _ (by simp)) k0_t7_loop k0_t7_ok (by decide +kernel) k0_off13 k0_off14 k0_off13_inb k0_off14_inb k0_off13_eq k0_off14_eq [] (by decide)) $$ [HO Hd6 Hp6 Ht6 Hr6 Hg Hu HA]
  · isplitr; · iexact HR
    isplitl [Hd6]; · iexact Hd6
    isplitl [Hp6]; · iexact Hp6
    isplitl [Ht6]; · iexact Ht6
    isplitl [Hr6]; · iexact Hr6
    isplitl [Hg]; · iexact Hg
    isplitl [Hu]; · iexact Hu
    isplitl [HO]; · iexact HO
    iexact HA
  iintro ⟨Hp10, -, -, Hu, Hk6, HO, HA⟩
  -- the last addition, and the division
  unfold acc loopP
  icases HA with ⟨Hq, Ho, Hl⟩
  unfold cur
  icases Hu with ⟨Hu0, Hu1⟩
  iapply (wp_trips c 3 fullShare (qstg m ρ c) (slotV m ρ false c 7) (slotV m ρ true c 7) (accO m ρ c 7) (accL m ρ c 7) (by decide +kernel)
    (fun t _ => trip 3 (k0_off15 t) (k0_off15_inb t) (k0_off16 t) (k0_off16_inb t)) k0_off15 k0_off16 k0_off15_inb k0_off16_inb k0_off15_eq k0_off16_eq (fun _ _ => rfl)) $$ [Hq Hu0 Hu1 Ho Hl]
  · isplitl [Hq]; · iexact Hq
    isplitl [Hu0]; · iexact Hu0
    isplitl [Hu1]; · iexact Hu1
    isplitl [Ho]; · iexact Ho
    iexact Hl
  iintro ⟨Hq, Hu0, Hu1, Ho, Hl⟩
  iapply (wp_close c _ _) $$ [Ho Hl]
  · isplitl [Ho]; · iexact Ho
    iexact Hl
  iintro ⟨Ho, Hl⟩
  iapply Hk
  ihave H4 := (both_kept m ρ c 4 (by decide)) $$ Hk4
  ihave H5 := (both_kept m ρ c 5 (by decide)) $$ Hk5
  ihave H6 := (both_kept m ρ c 6 (by decide)) $$ Hk6
  unfold cur past slots slotE
  icases H4 with ⟨Ha0, Hb0⟩
  icases H5 with ⟨Ha1, Hb1⟩
  icases H6 with ⟨Ha2, Hb2⟩
  isplitl [HO]; · iexact HO
  isplitl [Hbar Hcp Hp7 Hp8 Hp9 Hp10]
  · isplitl [Hbar Hcp]
    · isplitl [Hbar]; · iexact Hbar
      iexact Hcp
    isplitl [Hp8]; · iexact Hp8
    isplitl [Hp9]; · iexact Hp9
    isplitl [Hp10]; · iexact Hp10
    iexact Hp7
  isplitl [Ha0 Ha1 Ha2 Hu0 Hb0 Hb1 Hb2 Hu1]
  · isplitl [Ha0 Ha1 Ha2 Hu0]
    · isplitl [Ha0]; · iexists _; iexact Ha0
      isplitl [Ha1]; · iexists _; iexact Ha1
      isplitl [Ha2]; · iexists _; iexact Ha2
      iexists _; iexact Hu0
    · isplitl [Hb0]; · iexists _; iexact Hb0
      isplitl [Hb1]; · iexists _; iexact Hb1
      isplitl [Hb2]; · iexists _; iexact Hb2
      iexists _; iexact Hu1
  isplitl [Hq Hkk Hvv]
  · isplitl [Hq]; · iexact Hq
    isplitl [Hkk]; · iexact Hkk
    iexact Hvv
  isplitl [Ho]; · iexact Ho
  iexact Hl

end Wp

end Cert.KernelIdeal.Ring

end
-- ==== Proof.Ideal.Setup.lean ====
/-
# The launch: semaphores, tokens, credit

From the launch's zero counters every cell's invariant is made, for all devices under one update. The tokens of the
duties are dealt to the devices that pay them, the credit to the devices that wait.
-/
module

public import proofs.«01_k».proof.Proof.Ideal.Whole

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig ℕ (Elt F) ℕ UU ℕ

variable (m : (ℓ : Loc nD τ sig) → Buf (Elt F) ℓ) (ρ : Dev nD → PrngReg)

/-! ## A buffer of slots -/

theorem mem_slot (s : Fin 4) (i : S4x2x2048x256.Idx) : i ∈ (slotR s).set ↔ (i 0).val = s.val := by
  rw [Rect.mem_set_unit]
  constructor
  · intro h
    obtain ⟨h1, h2⟩ := h 0
    change s.val ≤ (i 0).val at h1
    change (i 0).val < s.val + 1 at h2
    omega
  · intro h a
    match a with
    | ⟨0, _⟩ => exact ⟨le_of_eq h.symm, by show (i 0).val < s.val + 1; omega⟩
    | ⟨1, _⟩ => exact ⟨Nat.zero_le _, by show (i 1).val < 0 + 2; have : (i 1).val < 2 := (i 1).isLt; omega⟩
    | ⟨2, _⟩ => exact ⟨Nat.zero_le _, by show (i 2).val < 0 + 2048; have : (i 2).val < 2048 := (i 2).isLt; omega⟩
    | ⟨3, _⟩ => exact ⟨Nat.zero_le _, by show (i 3).val < 0 + 256; have : (i 3).val < 256 := (i 3).isLt; omega⟩

theorem slot_set_false (s : Fin 4) : (slotM false s).view.set = (slotR s).set := (Memref.set_view_squeeze _ _).trans (View.set_slice_whole _ _)
theorem slot_set_true (s : Fin 4) : (slotM true s).view.set = (slotR s).set := (Memref.set_view_squeeze _ _).trans (View.set_slice_whole _ _)

theorem rects_disjoint (s s' : Fin 4) (h : s ≠ s') : Disjoint (slotR s).set (slotR s').set :=
  Finset.disjoint_left.mpr fun i h1 h2 => h (Fin.ext (((mem_slot s i).mp h1).symm.trans ((mem_slot s' i).mp h2)))
theorem rects_cover : (Finset.univ : Finset (Fin 4)).biUnion (fun s => (slotR s).set) = Finset.univ :=
  Finset.eq_univ_iff_forall.mpr fun i => Finset.mem_biUnion.mpr ⟨i 0, Finset.mem_univ _, (mem_slot _ i).mpr rfl⟩

/-- The elements of slot `s` in direction `d`'s buffer on `c`. -/
abbrev slotK (c : Dev nD) (d : Bool) (s : Fin 4) : Finset (Idx ((kvM d).view.loc (c : Thread nD τ))) := (slotM d s).view.set

theorem slots_disjoint (c : Dev nD) (d : Bool) (s s' : Fin 4) (h : s ≠ s') : Disjoint (slotK c d s) (slotK c d s') := by
  cases d
  · show Disjoint (slotM false s).view.set (slotM false s').view.set
    rw [slot_set_false, slot_set_false]; exact rects_disjoint s s' h
  · show Disjoint (slotM true s).view.set (slotM true s').view.set
    rw [slot_set_true, slot_set_true]; exact rects_disjoint s s' h

theorem slots_cover (c : Dev nD) (d : Bool) : (Finset.univ : Finset (Fin 4)).biUnion (slotK c d) = Finset.univ := by
  cases d
  · exact (congrArg (Finset.univ : Finset (Fin 4)).biUnion (funext slot_set_false)).trans rects_cover
  · exact (congrArg (Finset.univ : Finset (Fin 4)).biUnion (funext slot_set_true)).trans rects_cover

theorem bigSep_slots (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem slotE_intro (c : Dev nD) (d : Bool) (s : Fin 4) (f : Buf (Elt F) ((kvM d).view.loc (c : Thread nD τ))) :
    ((((kvM d).view.loc (c : Thread nD τ)) ↦[slotK c d s]{fullShare} f) : sProp 𝕄) ⊢ slotE (F := F) c d s := by
  unfold slotE slotP owns
  iintro H
  iexists _; iexists f
  isplitr; · (ipureintro; rfl)
  iexact H

theorem slotE_elim (c : Dev nD) (d : Bool) (s : Fin 4) :
    slotE (F := F) c d s ⊢ iprop(∃ f, (((kvM d).view.loc (c : Thread nD τ)) ↦[slotK c d s]{fullShare} f)) := by
  unfold slotE slotP owns
  iintro ⟨%x, %f, -, H⟩
  iexists f; iexact H

/-- A whole buffer is its four slots; -/
theorem slots_intro (c : Dev nD) (d : Bool) :
    (iprop(∃ f, ((kvM d).view.loc (c : Thread nD τ)) ↦{fullShare} f) : sProp 𝕄) ⊢ slots (F := F) c d := by
  unfold slots
  rw [← bigSep_slots (fun s => slotE (F := F) c d s)]
  iintro ⟨%f, H⟩
  iapply (show ((((kvM d).view.loc (c : Thread nD τ)) ↦{fullShare} f) : sProp 𝕄) ⊢ bigSep Finset.univ fun s => slotE (F := F) c d s from by
    rw [← slots_cover c d, pointsTo_biUnion _ _ (fun s _ s' _ h => slots_disjoint c d s s' h)]
    exact bigSep_mono fun s _ => slotE_intro c d s f)
  iexact H

/-- and the four slots are the whole buffer. -/
theorem slots_elim (c : Dev nD) (d : Bool) :
    slots (F := F) c d ⊢ (iprop(∃ f, ((kvM d).view.loc (c : Thread nD τ)) ↦{fullShare} f) : sProp 𝕄) := by
  have key (fs : Fin 4 → Buf (Elt F) ((kvM d).view.loc (c : Thread nD τ))) :
      (bigSep Finset.univ fun s => ((kvM d).view.loc (c : Thread nD τ)) ↦[slotK c d s]{fullShare} fs s : sProp 𝕄)
        ⊢ iprop(∃ f, ((kvM d).view.loc (c : Thread nD τ)) ↦{fullShare} f) := by
    refine (pointsTo_biUnion_join Finset.univ (slotK c d) fs (fs 0) (fun s _ s' _ h => slots_disjoint c d s s' h)).trans ?_
    rw [slots_cover]
    iintro ⟨%g, -, H⟩; iexists g; iexact H
  unfold slots
  iintro ⟨H0, H1, H2, H3⟩
  ihave H0' := (slotE_elim c d 0) $$ H0
  ihave H1' := (slotE_elim c d 1) $$ H1
  ihave H2' := (slotE_elim c d 2) $$ H2
  ihave H3' := (slotE_elim c d 3) $$ H3
  icases H0' with ⟨%f0, H0⟩
  icases H1' with ⟨%f1, H1⟩
  icases H2' with ⟨%f2, H2⟩
  icases H3' with ⟨%f3, H3⟩
  iapply (key fun s => match s with | 0 => f0 | 1 => f1 | 2 => f2 | 3 => f3)
  rw [bigSep_slots]
  isplitl [H0]; · iexact H0
  isplitl [H1]; · iexact H1
  isplitl [H2]; · iexact H2
  iexact H3

/-! ## The semaphores -/

theorem bigSep_roles (Φ : Role → sProp 𝕄) : bigSep Finset.univ Φ
    = iprop(Φ .bar ∗ Φ (.cr false) ∗ Φ (.cr true)
      ∗ Φ (.snd false 0) ∗ Φ (.rcv false 1) ∗ Φ (.snd true 0) ∗ Φ (.rcv true 1) ∗ Φ (.snd false 1) ∗ Φ (.rcv false 2) ∗ Φ (.snd true 1) ∗ Φ (.rcv true 2)
      ∗ Φ (.snd false 2) ∗ Φ (.rcv false 3) ∗ Φ (.snd true 2) ∗ Φ (.rcv true 3) ∗ Φ (.snd false 3) ∗ Φ (.rcv false 0) ∗ Φ (.snd true 3) ∗ Φ (.rcv true 0)) :=
  bigSep_univ_eq_bigSepL ([.bar, .cr false, .cr true,
    .snd false 0, .rcv false 1, .snd true 0, .rcv true 1, .snd false 1, .rcv false 2, .snd true 1, .rcv true 2,
    .snd false 2, .rcv false 3, .snd true 2, .rcv true 3, .snd false 3, .rcv false 0, .snd true 3, .rcv true 0] : List Role) (by decide) (by decide) Φ

/-- The semaphores that are the kernel's own: all but the barrier. -/
abbrev Own : Type := {k : Role // k ≠ .bar}
abbrev osem (k : Own) : SemLoc sig := sem k.val

theorem scoped_sem : ∀ k : Role, k ≠ .bar → (sem k).isScoped .tc = true := by decide +kernel
theorem role_stage : ∀ (w : Fin 4) (s : Fin (spec0 w).nbuf), role (.dma ((spec0 w).sem s)) = none := by decide +kernel
theorem ownSemFacts : Pipeline.OwnSemFacts cfg0.spec osem where
  isScoped := fun k => scoped_sem k.val k.property
  inj := sem_injective.comp Subtype.val_injective
  disj := fun k w s h => by
    have h2 : role (osem k) = none := by rw [h]; exact role_stage w s
    rw [role_sem] at h2; cases h2

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- The own semaphores and the runtime's one are all of the exchange's. -/
theorem sems0_eq (c : Dev nD) :
    (bigSep Finset.univ fun k : Role => semVal (cell c k) 0 : sProp 𝕄)
      = iprop(unscopedSems0 c ∗ Pipeline.ownSems0 (Ix := ℕ) (Name := ℕ) (U := UU) (Lvl := ℕ) (Val := Elt F) (τ := τ) osem c) := by
  have e : (Finset.univ : Finset Role) = insert .bar (Finset.univ.map (Function.Embedding.subtype fun k : Role => k ≠ .bar)) := by decide
  rw [unscopedSems0_eq, e, bigSep_insert (by decide), bigSep_map]
  rfl

/-- The round in which a cell ends: none of its duties is left. -/
def last : Role → ℕ
  | .bar => 1
  | .cr _ => 1
  | .snd _ s => if s = 3 then 1 else 2
  | .rcv _ s => if s = 0 then 1 else 2

theorem duties_last (k : Role) (r : ℕ) (h : last k ≤ r) : dutiesOf k r = ∅ := by
  rcases k with _ | d | ⟨d, s⟩ | ⟨d, s⟩
  · exact if_neg (fun e => by subst e; exact absurd h (by decide))
  · exact if_neg (fun e => by subst e; exact absurd h (show ¬ 1 ≤ 0 by decide))
  · refine if_neg fun e => ?_
    change (if s = 3 then 1 else 2) ≤ r at h
    have hs := s.isLt
    have : s = 3 ↔ s.val = 3 := ⟨fun e => by rw [e]; rfl, fun e => Fin.ext e⟩
    split at h <;> · simp only [sndStep] at e; omega
  · refine if_neg fun e => ?_
    change (if s = 0 then 1 else 2) ≤ r at h
    have hs := s.isLt
    have : s = 0 ↔ s.val = 0 := ⟨fun e => by rw [e]; rfl, fun e => Fin.ext e⟩
    split at h <;> · simp only [rcvStep] at e; omega

theorem close_cell (K : Dev nD × Role → ℕ) (c : Dev nD) (k : Role) :
    iprop(records m ρ K ∗ atPos ER (cell c k) (last k) ∅ 0) ⊢ |={Set.univ}=> (semVal (cell c k) 0 : sProp 𝕄) := by
  iintro ⟨#HR, Hat⟩
  imod (Rounds.cell_close ER (Rd m ρ) (Set.mem_univ (K (c, k))) (fun h => h) (R := last k)
    (fun r hr => by rw [duties_cell]; exact duties_last k r hr)) $$ [Hat] with H
  · isplitr; · iapply (records_inv m ρ K c k); iexact HR
    iexact Hat
  imodintro; iexact H

/-- A device past all its rounds has all its counters at zero. -/
theorem close_cells (K : Dev nD × Role → ℕ) (c : Dev nD) :
    iprop(records m ρ K ∗ bigSep Finset.univ fun k : Role => atPos ER (cell c k) (last k) ∅ 0)
      ⊢ |={Set.univ}=> (bigSep Finset.univ fun k : Role => semVal (cell c k) 0 : sProp 𝕄) := by
  refine (sep_mono_left (BI.bigSep_of_persistent (Finset.univ : Finset Role) (records m ρ K))).trans ?_
  rw [← bigSep_sep']
  exact (bigSep_mono fun k _ => close_cell m ρ K c k).trans (bigSep_fupd _ _)

theorem past_cells (c : Dev nD) : past (F := F) c ⊢ (bigSep Finset.univ fun k : Role => atPos ER (cell c k) (last k) ∅ 0 : sProp 𝕄) := by
  rw [bigSep_roles]
  unfold past place
  iintro ⟨⟨Hb, Hc0, Hc1⟩, ⟨⟨A0, -, B0, -⟩, A1, -, B1, -⟩, ⟨⟨A2, -, B2, -⟩, A3, -, B3, -⟩, ⟨⟨A4, -, B4, -⟩, A5, -, B5, -⟩, ⟨A6, -, B6, -⟩, A7, -, B7, -⟩
  isplitl [Hb]; · iexact Hb
  isplitl [Hc0]; · iexact Hc0
  isplitl [Hc1]; · iexact Hc1
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  isplitl [B5]; · iexact B5
  isplitl [A6]; · iexact A6
  isplitl [B6]; · iexact B6
  isplitl [A7]; · iexact A7
  iexact B7

/-! ## The duties' tokens -/

/-- The duties of one device's cells: two barrier units, four credit units, and seven transfers' ends, in either direction. -/
inductive Tok where
  | bar (d : Bool)
  | cr (d : Bool) (i : Fin 4)
  | snd (d : Bool) (h : Fin 7)
  | rcv (d : Bool) (h : Fin 7)
deriving DecidableEq, Fintype

/-- Cell, round and number of a duty. -/
def Tok.key : Tok → Role × ℕ × Fin 4
  | .bar d => (.bar, 0, bd d)
  | .cr d i => (.cr d, 0, i)
  | .snd d h => (.snd d (sl h.val), h.val / 4, 0)
  | .rcv d h => (.rcv d (sl (h.val + 1)), h.val / 4, 0)

theorem key_injective : Function.Injective Tok.key := by
  have h : ∀ a b : Tok, a.key = b.key → a = b := by decide +kernel
  exact fun a b => h a b

/-- The owner of a duty's cell, from the payer. -/
def Tok.own : Tok → Dev nD ≃ Dev nD
  | .bar d => step (!d)
  | .cr d _ => step (!d)
  | .snd _ _ => Equiv.refl _
  | .rcv d _ => step d

def tokOf (x : Dev nD × Tok) : GSem nD τ sig × ℕ × Fin 4 := (cell x.1 x.2.key.1, x.2.key.2)

theorem cell_injective : Function.Injective fun x : Dev nD × Role => cell x.1 x.2 := by
  rintro ⟨c, k⟩ ⟨c', k'⟩ h
  have h1 : c = c' := congrArg (fun g : GSem nD τ sig => g.1.1) h
  have h2 : k = k' := sem_injective (congrArg (fun g : GSem nD τ sig => g.2) h)
  rw [h1, h2]

theorem tokOf_injective : Function.Injective tokOf := by
  rintro ⟨c, t⟩ ⟨c', t'⟩ h
  have h1 := cell_injective (a₁ := (c, t.key.1)) (a₂ := (c', t'.key.1)) (congrArg (fun y => y.1) h)
  have h2 : t.key.2 = t'.key.2 := congrArg (fun y : GSem nD τ sig × ℕ × Fin 4 => y.2) h
  have h3 : t = t' := key_injective (Prod.ext (congrArg (fun y => y.2) h1) h2)
  have h4 : c = c' := congrArg (fun y => y.1) h1
  rw [h3, h4]

def ringCells : Finset (GSem nD τ sig) := Finset.univ.map ⟨_, cell_injective⟩
def ringToks : Finset (GSem nD τ sig × ℕ × Fin 4) := Finset.univ.map ⟨tokOf, tokOf_injective⟩

/-- The launch's ghost element. -/
def u₀ : UU :=
  (initOf (Pipeline.cells cfgs cellOf_inj) (Pipeline.launchToks cfgs cellOf_inj), initOf ringCells ringToks)

/-- The token of duty `t` of device `c`'s cells. -/
abbrev tok (c : Dev nD) (t : Tok) : sProp 𝕄 := dutyTok ER (cell c t.key.1) t.key.2.1 t.key.2.2
/-- The tokens of the duties that device `c` pays. -/
def payToks (c : Dev nD) : sProp 𝕄 := bigSep Finset.univ fun t : Tok => tok (F := F) (t.own c) t

/-- Every device's tokens, dealt to those that pay. -/
theorem toks_around : (bigSep Finset.univ fun c : Dev nD => bigSep Finset.univ fun t : Tok => tok (F := F) c t) = bigSep Finset.univ (payToks (F := F)) := by
  unfold payToks
  let e : Dev nD × Tok ≃ Dev nD × Tok :=
    ⟨fun x => (x.2.own x.1, x.2), fun x => (x.2.own.symm x.1, x.2), fun x => by simp, fun x => by simp⟩
  rw [← BI.bigSep_univ_prod (fun x : Dev nD × Tok => tok (F := F) x.1 x.2), bigSep_univ_equiv e,
    BI.bigSep_univ_prod (fun x : Dev nD × Tok => tok (F := F) (e x).1 (e x).2)]
  rfl

/-- What the launch deals device `c`. -/
def G (c : Dev nD) : sProp 𝕄 :=
  iprop((bigSep Finset.univ fun k : Role => roundState ER (Rd m ρ) (cell c k) 0)
    ∗ (bigSep Finset.univ fun k : Role => atPos ER (cell c k) 0 ∅ 0) ∗ (bigSep Finset.univ fun k : Role => reached ER (cell c k) 0)
    ∗ bigSep Finset.univ fun t : Tok => tok (F := F) c t)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Role => Φ (cell c k) := by
    unfold ringCells; rw [bigSep_map, BI.bigSep_univ_prod]; rfl
  have hT : bigSep ringToks (fun x => (dutyTok ER x.1 x.2.1 x.2.2 : sProp 𝕄)) = bigSep Finset.univ fun c : Dev nD => bigSep Finset.univ fun t : Tok => tok (F := F) c t := by
    unfold ringToks; rw [bigSep_map, BI.bigSep_univ_prod]; rfl
  iintro HX
  imod (Rounds.fund ER (Rd m ρ) ringCells ringToks) $$ HX with ⟨Hst, Hr, Hat, Htok⟩
  imodintro
  unfold G; simp only [bigSep_sep']
  isplitl [Hst]; · iapply (Entails.of_eq (hX fun g => roundState ER (Rd m ρ) g 0)); iexact Hst
  isplitl [Hat]; · iapply (Entails.of_eq (hX fun g => atPos ER g 0 ∅ 0)); iexact Hat
  isplitl [Hr]; · iapply (Entails.of_eq (hX fun g => reached ER g 0)); iexact Hr
  iapply (Entails.of_eq hT); iexact Htok

/-- The invariants and reached rounds alone. -/
def known (K : Dev nD × Role → ℕ) : sProp 𝕄 :=
  iprop((bigSep Finset.univ fun x : Dev nD × Role => cellInv ER (Rd m ρ) (K x) (cell x.1 x.2))
    ∗ (bigSep Finset.univ fun x : Dev nD × Role => reached ER (cell x.1 x.2) 0))
instance known_persistent (K : Dev nD × Role → ℕ) : BI.Persistent (known m ρ K) := by unfold known; infer_instance

/-- What device `c` has once all invariants are made. -/
def G' (c : Dev nD) : sProp 𝕄 :=
  iprop(∃ K, known m ρ K ∗ (bigSep Finset.univ fun k : Role => atPos ER (cell c k) 0 ∅ 0) ∗ payToks (F := F) c)

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Role => iprop(∃ κ : ℕ, cellInv ER (Rd m ρ) κ (cell c k)))
          ∗ (bigSep Finset.univ fun k : Role => atPos ER (cell c k) 0 ∅ 0) ∗ (bigSep Finset.univ fun k : Role => reached ER (cell c k) 0)
          ∗ bigSep Finset.univ fun t : Tok => tok (F := F) c t) := by
  unfold G
  iintro ⟨Hos, Hus, Hst, Hat⟩
  imod (show iprop((bigSep Finset.univ fun k : Role => semVal (cell c k) 0) ∗ bigSep Finset.univ fun k : Role => roundState ER (Rd m ρ) (cell c k) 0)
      ⊢ (|={Set.univ}=> bigSep Finset.univ fun k : Role => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hos Hus Hst] with Hinv
  · isplitl [Hos Hus]
    · iapply (Entails.of_eq (sems0_eq (F := F) c).symm)
      isplitl [Hus]; · iexact Hus
      iexact Hos
    iexact Hst
  imodintro
  isplitl [Hinv]; · iexact Hinv
  iexact Hat

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

theorem regroup :
    (bigSep Finset.univ fun c : Dev nD => iprop((bigSep Finset.univ fun k : Role => iprop(∃ κ : ℕ, cellInv ER (Rd m ρ) κ (cell c k)))
          ∗ (bigSep Finset.univ fun k : Role => atPos ER (cell c k) 0 ∅ 0) ∗ (bigSep Finset.univ fun k : Role => reached ER (cell c k) 0)
          ∗ bigSep Finset.univ fun t : Tok => tok (F := F) c t) : sProp 𝕄)
      ⊢ bigSep Finset.univ (G' m ρ) := by
  rw [bigSep_sep', bigSep_sep', bigSep_sep', toks_around,
    ← BI.bigSep_univ_prod (fun x : Dev nD × Role => iprop(∃ κ : ℕ, cellInv ER (Rd m ρ) κ (cell x.1 x.2))),
    ← BI.bigSep_univ_prod (fun x : Dev nD × Role => (reached ER (cell x.1 x.2) 0 : sProp 𝕄))]
  iintro ⟨HI, Hat, #HR, Htok⟩
  ihave HK := (BI.bigSep_exists_pi Finset.univ (fun (x : Dev nD × Role) (κ : ℕ) => (cellInv ER (Rd m ρ) κ (cell x.1 x.2) : sProp 𝕄))) $$ HI
  icases HK with ⟨%K, #HI⟩
  iapply (with_persistent (R := known m ρ K) (Φ := fun c => iprop((bigSep Finset.univ fun k : Role => atPos ER (cell c k) 0 ∅ 0) ∗ payToks (F := F) c))
    fun c => show _ ⊢ G' m ρ c from by
      unfold G'
      iintro H
      iexists K
      iexact H)
  isplitr
  · unfold known; isplitl; · iexact HI
    iexact HR
  · rw [bigSep_sep']
    isplitl [Hat]; · iexact Hat
    iexact Htok

/-- All devices' semaphores become all devices' cells. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Ring

end
-- ==== Proof.Ideal.Run.lean ====
/-
# The run

The kernel as launched on the eight devices: every execution ends, each device's result array holds `outV`, its
arguments are as they were, and every semaphore's counter is zero.
-/
module

public import proofs.«01_k».proof.Proof.Ideal.Setup
public import proofs.«01_k».proof.Proof.Gen.KernelIdeal.Points
public import Idealize.ShloMosaic.Lib.Pipeline.BigSepL
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## A device's part of the schedule -/

set_option maxRecDepth 8000 in
theorem bigSep_toks (Φ : Tok → sProp 𝕄) : bigSep Finset.univ Φ = bigSepL ([.bar false, .bar true, .cr false 0, .cr true 0, .cr false 1, .cr true 1, .cr false 2, .cr true 2, .cr false 3, .cr true 3, .snd false 0, .rcv false 0, .snd true 0, .rcv true 0, .snd false 1, .rcv false 1, .snd true 1, .rcv true 1, .snd false 2, .rcv false 2, .snd true 2, .rcv true 2, .snd false 3, .rcv false 3, .snd true 3, .rcv true 3, .snd false 4, .rcv false 4, .snd true 4, .rcv true 4, .snd false 5, .rcv false 5, .snd true 5, .rcv true 5, .snd false 6, .rcv false 6, .snd true 6, .rcv true 6] : List Tok) Φ :=
  bigSep_univ_eq_bigSepL _ (by decide +kernel) (by decide +kernel) Φ

set_option maxRecDepth 8000 in
set_option maxHeartbeats 1600000 in
/-- The positions, the tokens and the launch's credit make up the schedule's part. -/
theorem sched_intro (K : Dev nD × Role → ℕ) (c : Dev nD) :
    iprop(records m ρ K ∗ (bigSep Finset.univ fun k : Role => atPos ER (cell c k) 0 ∅ 0) ∗ payToks (F := F) c ∗ duesCred (F := F) c dues) ⊢ sched (F := F) c := by
  unfold payToks
  rw [bigSep_roles, bigSep_toks]
  simp only [dues, duesCred, bigSepL_cons', bigSepL_nil]
  unfold sched place duty
  iintro ⟨#HR, ⟨Pb, Pcf, Pct, Sf0p, Rf1p, St0p, Rt1p, Sf1p, Rf2p, St1p, Rt2p, Sf2p, Rf3p, St2p, Rt3p, Sf3p, Rf0p, St3p, Rt0p⟩, ⟨Bf, Bt, Cf0, Ct0, Cf1, Ct1, Cf2, Ct2, Cf3, Ct3, Sf0, Rf0, St0, Rt0, Sf1, Rf1, St1, Rt1, Sf2, Rf2, St2, Rt2, Sf3, Rf3, St3, Rt3, Sf4, Rf4, St4, Rt4, Sf5, Rf5, St5, Rt5, Sf6, Rf6, St6, Rt6, -⟩, ⟨⟨⟨⟨⟨⟨⟨⟨⟨⟨⟨⟨⟨⟨⟨⟨⟨⟨⟨⟨⟨⟨⟨⟨-, Dst6⟩, Dsf6⟩, Dst5⟩, Dsf5⟩, Dst4⟩, Dsf4⟩, Dct3⟩, Dcf3⟩, Dst3⟩, Dsf3⟩, Dct2⟩, Dcf2⟩, Dst2⟩, Dsf2⟩, Dct1⟩, Dcf1⟩, Dst1⟩, Dsf1⟩, Dct0⟩, Dcf0⟩, Dst0⟩, Dsf0⟩, Cbt⟩, Cbf⟩⟩
  isplitl [Pb Pcf Pct]
  · isplitl [Pb]; · iexact Pb
    isplitl [Pcf]; · unfold crPos; iexists ∅; iexact Pcf
    unfold crPos; iexists ∅; iexact Pct
  isplitl [Bf Bt]
  · isplitl [Bf]; · iexact Bf
    iexact Bt
  isplitl [Cbf Cbt]
  · isplitl [Cbf]; · iexact Cbf
    iexact Cbt
  isplitl [Cf0 Ct0 Cf1 Ct1 Cf2 Ct2 Cf3 Ct3]
  · isplitl [Cf0 Ct0]
    · isplitl [Cf0]; · iexact Cf0
      iexact Ct0
    isplitl [Cf1 Ct1]
    · isplitl [Cf1]; · iexact Cf1
      iexact Ct1
    isplitl [Cf2 Ct2]
    · isplitl [Cf2]; · iexact Cf2
      iexact Ct2
    isplitl [Cf3]; · iexact Cf3
    iexact Ct3
  isplitl [Dcf0 Dct0 Dcf1 Dct1 Dcf2 Dct2 Dcf3 Dct3]
  · isplitl [Dcf0 Dct0]
    · isplitl [Dcf0]; · iexact Dcf0
      iexact Dct0
    isplitl [Dcf1 Dct1]
    · isplitl [Dcf1]; · iexact Dcf1
      iexact Dct1
    isplitl [Dcf2 Dct2]
    · isplitl [Dcf2]; · iexact Dcf2
      iexact Dct2
    isplitl [Dcf3]; · iexact Dcf3
    iexact Dct3
  isplitl [Sf0p Rf1p St0p Rt1p Sf1p Rf2p St1p Rt2p Sf2p Rf3p St2p Rt3p Sf3p Rf0p St3p Rt0p]
  · isplitl [Sf0p Rf1p St0p Rt1p]
    · isplitl [Sf0p Rf1p]
      · isplitl [Sf0p]; · iexact Sf0p
        isplitr; · iapply (records_reached m ρ K c _); iexact HR
        isplitl [Rf1p]; · iexact Rf1p
        iapply (records_reached m ρ K c _); iexact HR
      isplitl [St0p]; · iexact St0p
      isplitr; · iapply (records_reached m ρ K c _); iexact HR
      isplitl [Rt1p]; · iexact Rt1p
      iapply (records_reached m ρ K c _); iexact HR
    isplitl [Sf1p Rf2p St1p Rt2p]
    · isplitl [Sf1p Rf2p]
      · isplitl [Sf1p]; · iexact Sf1p
        isplitr; · iapply (records_reached m ρ K c _); iexact HR
        isplitl [Rf2p]; · iexact Rf2p
        iapply (records_reached m ρ K c _); iexact HR
      isplitl [St1p]; · iexact St1p
      isplitr; · iapply (records_reached m ρ K c _); iexact HR
      isplitl [Rt2p]; · iexact Rt2p
      iapply (records_reached m ρ K c _); iexact HR
    isplitl [Sf2p Rf3p St2p Rt3p]
    · isplitl [Sf2p Rf3p]
      · isplitl [Sf2p]; · iexact Sf2p
        isplitr; · iapply (records_reached m ρ K c _); iexact HR
        isplitl [Rf3p]; · iexact Rf3p
        iapply (records_reached m ρ K c _); iexact HR
      isplitl [St2p]; · iexact St2p
      isplitr; · iapply (records_reached m ρ K c _); iexact HR
      isplitl [Rt3p]; · iexact Rt3p
      iapply (records_reached m ρ K c _); iexact HR
    isplitl [Sf3p Rf0p]
    · isplitl [Sf3p]; · iexact Sf3p
      isplitr; · iapply (records_reached m ρ K c _); iexact HR
      isplitl [Rf0p]; · iexact Rf0p
      iapply (records_reached m ρ K c _); iexact HR
    isplitl [St3p]; · iexact St3p
    isplitr; · iapply (records_reached m ρ K c _); iexact HR
    isplitl [Rt0p]; · iexact Rt0p
    iapply (records_reached m ρ K c _); iexact HR
  isplitl [Sf0 Rf0 Dsf0 St0 Rt0 Dst0]
  · isplitl [Sf0 Rf0 Dsf0]
    · isplitl [Sf0]; · iexact Sf0
      isplitl [Rf0]; · iexact Rf0
      iexact Dsf0
    isplitl [St0]; · iexact St0
    isplitl [Rt0]; · iexact Rt0
    iexact Dst0
  isplitl [Sf1 Rf1 Dsf1 St1 Rt1 Dst1]
  · isplitl [Sf1 Rf1 Dsf1]
    · isplitl [Sf1]; · iexact Sf1
      isplitl [Rf1]; · iexact Rf1
      iexact Dsf1
    isplitl [St1]; · iexact St1
    isplitl [Rt1]; · iexact Rt1
    iexact Dst1
  isplitl [Sf2 Rf2 Dsf2 St2 Rt2 Dst2]
  · isplitl [Sf2 Rf2 Dsf2]
    · isplitl [Sf2]; · iexact Sf2
      isplitl [Rf2]; · iexact Rf2
      iexact Dsf2
    isplitl [St2]; · iexact St2
    isplitl [Rt2]; · iexact Rt2
    iexact Dst2
  isplitl [Sf3 Rf3 Dsf3 St3 Rt3 Dst3]
  · isplitl [Sf3 Rf3 Dsf3]
    · isplitl [Sf3]; · iexact Sf3
      isplitl [Rf3]; · iexact Rf3
      iexact Dsf3
    isplitl [St3]; · iexact St3
    isplitl [Rt3]; · iexact Rt3
    iexact Dst3
  isplitl [Sf4 Rf4 Dsf4 St4 Rt4 Dst4]
  · isplitl [Sf4 Rf4 Dsf4]
    · isplitl [Sf4]; · iexact Sf4
      isplitl [Rf4]; · iexact Rf4
      iexact Dsf4
    isplitl [St4]; · iexact St4
    isplitl [Rt4]; · iexact Rt4
    iexact Dst4
  isplitl [Sf5 Rf5 Dsf5 St5 Rt5 Dst5]
  · isplitl [Sf5 Rf5 Dsf5]
    · isplitl [Sf5]; · iexact Sf5
      isplitl [Rf5]; · iexact Rf5
      iexact Dsf5
    isplitl [St5]; · iexact St5
    isplitl [Rt5]; · iexact Rt5
    iexact Dst5
  isplitl [Sf6 Rf6 Dsf6]
  · isplitl [Sf6]; · iexact Sf6
    isplitl [Rf6]; · iexact Rf6
    iexact Dsf6
  isplitl [St6]; · iexact St6
  isplitl [Rt6]; · iexact Rt6
  iexact Dst6

/-! ## The pipeline's data -/

/-- Before the body: the schedule's part and the scratch buffers; -/
def Φ₀ (c : Dev nD) : sProp 𝕄 :=
  iprop((∃ K, records m ρ K ∗ sched (F := F) c) ∗ both (slots (F := F) c ·) ∗ ∃ l, owns (c : Thread nD τ) lM fullShare l)
/-- after it: the scratch buffers and all counters at zero. -/
def Φ₁ (c : Dev nD) : sProp 𝕄 :=
  iprop((bigSep Finset.univ fun k : Role => semVal (cell c k) 0) ∗ both (slots (F := F) c ·) ∗ ∃ l, owns (c : Thread nD τ) lM fullShare l)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem scratch_eq (c : Dev nD) : (iprop(∃ l, owns (c : Thread nD τ) lM fullShare l) : sProp 𝕄)
    ⊣⊢ iprop(∃ f : Buf (Elt F) ((c : Thread nD τ).loc cc0_scratch2), ((c : Thread nD τ).loc cc0_scratch2) ↦{fullShare} f) := by
  constructor
  · iintro ⟨%l, H⟩
    ihave H' := (Entails.of_eq (owns_whole_eq c cc0_scratch2 l)) $$ H
    icases H' with ⟨%f, -, H⟩
    iexists f; iexact H
  · iintro ⟨%f, H⟩
    iexists f
    iapply (Entails.of_eq (owns_whole_eq c cc0_scratch2 f).symm)
    iexists f
    isplitr; · (ipureintro; rfl)
    iexact H

/-! ## The body's obligation -/

theorem enter_owed (c : Dev nD) : (dats m ρ 0 c).owesAt 0 (t0_0 : Fin cfg0.N).castSucc ⊢ owesE (F := F) c dues := by
  unfold Dat.owesAt Pipeline.owesWithin owesE
  iintro ⟨%W, -, HO⟩
  iexists W; iexact HO

theorem leave_owed (c : Dev nD) : owesE (F := F) c [] ⊢ (dats m ρ 0 c).owesAt 0 (t0_0 : Fin cfg0.N).succ := by
  unfold Dat.owesAt Pipeline.owesWithin owesE
  iintro ⟨%W, HO⟩
  iexists W
  isplitr; · (ipureintro; exact fun _ _ => Or.inl trivial)
  iexact HO

def bodyPre (c : Dev nD) : sProp 𝕄 :=
  iprop(Φ₀ m ρ c ∗ (dats m ρ 0 c).owesAt 0 (t0_0 : Fin cfg0.N).castSucc
    ∗ (∃ d, owns (c : Thread nD τ) qM fullShare ((dats m ρ 0 c).before (0 : Fin 4) t0_0 d))
    ∗ (∃ d, owns (c : Thread nD τ) kM fullShare ((dats m ρ 0 c).before (1 : Fin 4) t0_0 d))
    ∗ (∃ d, owns (c : Thread nD τ) vM fullShare ((dats m ρ 0 c).before (2 : Fin 4) t0_0 d))
    ∗ (∃ d, owns (c : Thread nD τ) oM fullShare ((dats m ρ 0 c).before (3 : Fin 4) t0_0 d)))
def bodyPost (c : Dev nD) : sProp 𝕄 :=
  iprop(Φ₁ (F := F) c ∗ (dats m ρ 0 c).owesAt 0 (t0_0 : Fin cfg0.N).succ
    ∗ owns (c : Thread nD τ) qM fullShare (qstg m ρ c) ∗ owns (c : Thread nD τ) kM fullShare (kstg m ρ c) ∗ owns (c : Thread nD τ) vM fullShare (vstg m ρ c)
    ∗ owns (c : Thread nD τ) oM fullShare (outV m ρ c))

theorem before_q (c : Dev nD) (d) : (dats m ρ 0 c).before (0 : Fin 4) t0_0 d = qstg m ρ c := by
  unfold Dat.before; rw [if_pos (fetch0_0 t0_0)]; rfl
theorem before_k (c : Dev nD) (d) : (dats m ρ 0 c).before (1 : Fin 4) t0_0 d = kstg m ρ c := by
  unfold Dat.before; rw [if_pos (fetch0_1 t0_0)]; rfl
theorem before_v (c : Dev nD) (d) : (dats m ρ 0 c).before (2 : Fin 4) t0_0 d = vstg m ρ c := by
  unfold Dat.before; rw [if_pos (fetch0_2 t0_0)]; rfl

theorem wp_body (c : Dev nD) :
    bodyPre m ρ c ⊢ wp frame (wpE (defs₀ (F := F)) 𝒱₀ (c : Thread nD τ) none) Set.univ
      (cc0_body (F := F) qM (Memref.isWhole_whole _) kM (Memref.isWhole_whole _) vM (Memref.isWhole_whole _) oM (Memref.isWhole_whole _)
        (Memref.whole cc0_scratch0) (Memref.isWhole_whole _) (Memref.whole cc0_scratch1) (Memref.isWhole_whole _) lM (Memref.isWhole_whole _)
        cc0_scratch3 cc0_scratch4 cc0_scratch5 cc0_scratch6 cc0_scratch7 cc0_scratch8) (fun _ => bodyPost m ρ c) := by
  rw [body_eq, wp_deviceId]
  unfold bodyPre Φ₀
  iintro ⟨⟨⟨%K, #HR, Hs⟩, Hsl, %l, Hl⟩, HO, ⟨%d0, Hq⟩, ⟨%d1, Hk⟩, ⟨%d2, Hv⟩, %d3, Ho⟩
  rw [before_q, before_k, before_v]
  ihave HO' := (enter_owed m ρ c) $$ HO
  iapply (wp_ring m ρ K c _ l) $$ [HO' Hs Hsl Hq Hk Hv Ho Hl]
  · isplitr; · iexact HR
    isplitl [HO']; · iexact HO'
    isplitl [Hs]; · iexact Hs
    isplitl [Hsl]; · iexact Hsl
    isplitl [Hq Hk Hv]
    · unfold staged
      isplitl [Hq]; · iexact Hq
      isplitl [Hk]; · iexact Hk
      iexact Hv
    isplitl [Ho]; · iexact Ho
    iexact Hl
  iintro ⟨HO, Hp, Hsl, Hst, Ho, Hl⟩
  ihave Hp' := (past_cells c) $$ Hp
  imod (close_cells m ρ K c) $$ [Hp'] with Hz
  · isplitr; · iexact HR
    iexact Hp'
  imodintro
  unfold bodyPost Φ₁ staged
  isplitl [Hz Hsl Hl]
  · isplitl [Hz]; · iexact Hz
    isplitl [Hsl]; · iexact Hsl
    iexists _; iexact Hl
  isplitl [HO]; · iapply (leave_owed m ρ c); iexact HO
  icases Hst with ⟨Hq, Hk, Hv⟩
  isplitl [Hq]; · iexact Hq
  isplitl [Hk]; · iexact Hk
  isplitl [Hv]; · iexact Hv
  iexact Ho

set_option maxRecDepth 4000 in
theorem body_obligation (c : Dev nD) : BodyObligation (dats (F := F) m ρ 0 c) (defs₀ (F := F)) 𝒱₀ 0 Set.univ := fun t => by
  rw [fin_N0 t]
  rw [bigSep_W0, bigSep_W0]
  exact wp_body m ρ c

/-! ## The launch -/

/-- What a device holds at the launch, the scratch buffers apart. -/
def start (c : Dev nD) : sProp 𝕄 := iprop(∃ K, records m ρ K ∗ sched (F := F) c)

theorem launchCred_all (c : Dev nD) : (Pipeline.launchCred O₀ c : sProp 𝕄) ⊢ duesCred c dues := launchCred_owing c dues

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' known start
  iintro ⟨-, #Hlev, Hcr, -, %K, ⟨#HI, #Hr⟩, Hat, Htok⟩
  ihave Hc := (launchCred_all (F := F) c) $$ Hcr
  imodintro
  isplitl
  · iexists K
    isplitr
    · unfold records
      isplitr; · iexact HI
      isplitr; · iexact Hr
      iexact Hlev
    iapply (sched_intro m ρ K c)
    isplitr
    · unfold records
      isplitr; · iexact HI
      isplitr; · iexact Hr
      iexact Hlev
    isplitl [Hat]; · iexact Hat
    isplitl [Htok]; · iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start
  iintro ⟨Hs, -, Ha, Hb, Hl⟩
  isplitl [Hs]; · iexact Hs
  isplitl [Ha Hb]
  · isplitl [Ha]
    · iapply (slots_intro (F := F) c false); iexact Ha
    iapply (slots_intro (F := F) c true); iexact Hb
  iapply (scratch_eq (F := F) c).2; iexact Hl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [sems0_eq]
  iintro ⟨⟨Hu, Hos⟩, ⟨Ha, Hb⟩, Hl⟩
  isplitl [Hu]; · iexact Hu
  isplitl [Hos]; · iexact Hos
  isplitl [Ha]; · iapply (slots_elim (F := F) c false); iexact Ha
  isplitl [Hb]; · iapply (slots_elim (F := F) c true); iexact Hb
  iapply (scratch_eq (F := F) c).1; iexact Hl

theorem share_eq (c : Dev nD) (w : Fin cfg0.W) : (dats m ρ 0 c).share w = fullShare := by unfold Dat.share; split <;> rfl

theorem dues_levels : ∀ x ∈ dues, 0 < x.lvl ∧ x.lvl < 32 := by decide

/-- The pipeline's own waits, at level 0, come below everything owed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 dues (by decide) dues_levels
    · exact mayWait c _ 0 [] (by decide) (fun x hx => absurd hx List.not_mem_nil)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final memory -/

/-- A window's one block is its whole array. -/
theorem read_q (X : (main_arg0 : Ref sig .tc).ty.Contents (Elt F)) : (win0_0.blk (0 : Fin 1)).view.read (Elt F) X = X :=
  Memref.read_access_unit_zero (Elt F) main_arg0 (funext fun a => Nat.zero_mul _) (fun a => by simp) X
theorem read_k (X : (main_arg1 : Ref sig .tc).ty.Contents (Elt F)) : (win0_1.blk (0 : Fin 1)).view.read (Elt F) X = X :=
  Memref.read_access_unit_zero (Elt F) main_arg1 (funext fun a => Nat.zero_mul _) (fun a => by simp) X
theorem read_v (X : (main_arg2 : Ref sig .tc).ty.Contents (Elt F)) : (win0_2.blk (0 : Fin 1)).view.read (Elt F) X = X :=
  Memref.read_access_unit_zero (Elt F) main_arg2 (funext fun a => Nat.zero_mul _) (fun a => by simp) X
theorem read_o (X : (main_v1 : Ref sig .tc).ty.Contents (Elt F)) : (win0_3.blk (0 : Fin 1)).view.read (Elt F) X = X :=
  Memref.read_access_unit_zero (Elt F) main_v1 (funext fun a => Nat.zero_mul _) (fun a => by simp) X

theorem qstg_eq (c : Dev nD) : qstg m ρ c = m ((c : Thread nD τ).loc main_arg0) := read_q _
theorem kstg_eq (c : Dev nD) : kstg m ρ c = m ((c : Thread nD τ).loc main_arg1) := read_k _
theorem vstg_eq (c : Dev nD) : vstg m ρ c = m ((c : Thread nD τ).loc main_arg2) := read_v _

theorem flushed_eq (c : Dev nD) (t : Fin cfg0.N) (hf : (cfg0.win 3).flush t = true) :
    (dats m ρ 0 c).flushed 3 t = ((cfg0.win 3).blk t).view.read (Elt F) (outV m ρ c) := by
  rw [fin_N0 t]
  exact (read_o (outV m ρ c)).symm

theorem final_o (c : Dev nD) : (dats m ρ 0 c).arrAt 3 cfg0.N = outV m ρ c :=
  (dats m ρ 0 c).arrAt_eq_of_cover 3 (outV m ρ c) (flushed_eq m ρ c) fun i =>
    ⟨t0_0, flush0_3 t0_0, by
      show i ∈ ((View.whole main_v1).slice (win0_3.rect t0_0)).set
      rw [View.set_slice_whole, Rect.mem_set_unit]
      intro a
      have h0 : (i a : ℕ) < main_v1.ty.shape.size a := (i a).isLt
      exact ⟨le_of_eq_of_le (Nat.zero_mul _) (Nat.zero_le _), lt_of_lt_of_eq h0 (by show _ = 0 * _ + _; rw [Nat.zero_mul, Nat.zero_add])⟩⟩

/-- THE RUN. -/
theorem run : θ_run defs (onTc (τ := τ) (main (F := F))) ⟨m, fun _ => 0, ρ⟩ (fun r =>
    (∀ c : Dev nD, r.2.mem ((c : Thread nD τ).loc main_v1) = outV m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c 3).trans (final_o m ρ c), (h.1 c 0).trans ((dats m ρ 0 c).arrAt_in 0 rfl _),
    (h.1 c 1).trans ((dats m ρ 0 c).arrAt_in 1 rfl _), (h.1 c 2).trans ((dats m ρ 0 c).arrAt_in 2 rfl _)⟩, h.2⟩) (run_main m ρ)

end Cert.KernelIdeal.Ring

end
-- ==== Proof.Same.lean ====
/-
# One program, two names

The kernel and its reading over the extended reals are printed from one text, and each is stated for any float values.
They are the same program, so the run proved of the one is a run of the other.
-/
module

public import proofs.«01_k».proof.Proof.Gen.Kernel
public import proofs.«01_k».proof.Proof.Ideal.Run

@[expose] public section

noncomputable section

namespace Cert.Same

open Idealize.ShloMosaic Idealize.SL.Sem

attribute [local instance] Cert.Kernel.Gen.facts Cert.KernelIdeal.Gen.facts

variable {F : FTy → Type} [FloatOps F]

/-- The two programs' bodies. -/
theorem body_eq : Cert.Kernel.cc0_body (F := F) = Cert.KernelIdeal.cc0_body (F := F) := rfl

theorem defs₀_eq : Cert.Kernel.defs₀ (F := F) = Cert.KernelIdeal.defs₀ (F := F) :=
  congrArg Defs.onTc (funext fun l => funext fun x => match l, x with
    | 0, (_, _) => rfl
    | ⟨_ + 1, h⟩, _ => absurd h (Nat.not_lt.2 (Nat.le_add_left _ _)))

theorem defs_eq : Cert.Kernel.defs (F := F) = Cert.KernelIdeal.defs (F := F) := congrArg (Pipeline.defs Cert.KernelIdeal.pcfgs) defs₀_eq

/-- What is true of every end of the one program is true of every end of the other. -/
theorem run_of (s : MemSt Cert.Kernel.nD Cert.Kernel.τ Cert.Kernel.sig (Elt F)) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq]
  exact h

end Cert.Same

end
-- ==== Proof.Value.Block.lean ====
/-
# One step's sums at an element

The new numerator and denominator of one block of 512 queries, read at one element over the reals: the old one plus, for
each of the two halves in use, the weighted sum of its values, and the sum of its weights.
-/
module

public import proofs.«01_k».proof.Proof.Ideal.Trips
public import Idealize.ShloMosaic.Lib.ValueIdx
public import Idealize.ShloMosaic.Lib.MatmulPlain
public import Idealize.ShloMosaic.Lib.IdealHost
public import Idealize.ShloMosaic.Lib.Pipeline.Value

@[expose] public section

noncomputable section

namespace Cert.KernelIdeal.Value

open Cert.KernelIdeal Cert.KernelIdeal.Gen Cert.KernelIdeal.Ring

open Idealize.ShloMosaic
open Idealize.ShloMosaic.ValueIdx (ix1 ix3 ix4 eq_ix2)
open scoped BigOperators

/-- The weight of a key for a query: the exponential of a sixteenth of their product. -/
def wgt (a b : Fin 256 → EReal) : EReal := Ideal.exp (∑ z, a z * ((1 / 16 : ℝ) : EReal) * b z)

/-- A part of a slot as a matrix. -/
theorem cast_part (v : Vec Ideal S1x1x2048x256 .bf16) (j : Fin 2048) (z : Fin 256) :
    shapeCast S2048x256 v shapeCasts_S1x1x2048x256_S2048x256 (ValueIdx.ix2 j z) = v (ix4 0 0 j z) :=
  shapeCast_apply _ _ _ _ (by
    rw [Shape.rowMajor_val_two, Shape.rowMajor_val_four]
    show ((0 * 1 + 0) * 2048 + j.val) * 256 + z.val = j.val * 256 + z.val
    omega)

/-- A row of sums as a column. -/
theorem cast_col (v : Vec Ideal S512 .f32) (i : Fin 512) :
    shapeCast S512x1 v shapeCasts_S512_S512x1 (ValueIdx.ix2 i 0) = v (ix1 i) :=
  shapeCast_apply _ _ _ _ (by
    rw [Shape.rowMajor_val_two, Shape.rowMajor_val_one]
    show i.val = i.val * 1 + 0
    omega)

/-- The scaled queries. -/
theorem scaled_apply (q : Vec Ideal S512x256 .bf16) (i : Fin 512) (z : Fin 256) : k0_pay1 q (ValueIdx.ix2 i z) = q (ValueIdx.ix2 i z) * ((1 / 16 : ℝ) : EReal) := by
  unfold k0_pay1
  rw [ValueIdx.mulf_apply, shapeCast_self]
  exact congrArg _ Ideal.ofBits_sixteenth_bf16

/-- The weights of the first half; -/
theorem weight_apply (q : Vec Ideal S512x256 .bf16) (k : Vec Ideal S1x1x2048x256 .bf16) (i : Fin 512) (j : Fin 2048) :
    k0_pay2 q k (ValueIdx.ix2 i j) = wgt (fun z => q (ValueIdx.ix2 i z)) (fun z => k (ix4 0 0 j z)) := by
  unfold wgt
  refine congrArg Ideal.exp ((Ideal.matmul_transposedRhs_apply none (k0_pay1 q) _ _ i j).trans ?_)
  rw [show constant (F := Ideal) S512x2048 .f32 0x00000000#32 (ValueIdx.ix2 i j) = 0 from Ideal.ofBits_zero_f32, zero_add]
  exact Finset.sum_congr rfl fun z _ => by rw [scaled_apply, cast_part]

/-- the second half's are computed alike. -/
theorem weight_eq (q : Vec Ideal S512x256 .bf16) (k : Vec Ideal S1x1x2048x256 .bf16) : k0_pay5 q k = k0_pay2 q k := rfl

/-- A half's weighted sum of its values. -/
theorem weighted_apply (q : Vec Ideal S512x256 .bf16) (k v : Vec Ideal S1x1x2048x256 .bf16) (i : Fin 512) (x : Fin 256) :
    matmul (F := Ideal) (φ₂ := .bf16) dot_S512x2048_S2048x256_S512x256_1_0_0_1_n_n none (truncf .bf16 (k0_pay2 q k) bitsLt_bf16_f32)
        (shapeCast S2048x256 v shapeCasts_S1x1x2048x256_S2048x256) (constant S512x256 .f32 0x00000000#32) (ValueIdx.ix2 i x)
      = ∑ j, wgt (fun z => q (ValueIdx.ix2 i z)) (fun z => k (ix4 0 0 j z)) * v (ix4 0 0 j x) := by
  refine (Ideal.matmul_plain_apply none _ _ _ i x).trans ?_
  rw [show constant (F := Ideal) S512x256 .f32 0x00000000#32 (ValueIdx.ix2 i x) = 0 from Ideal.ofBits_zero_f32, zero_add]
  exact Finset.sum_congr rfl fun j _ => by rw [ValueIdx.truncf_apply, weight_apply, cast_part]

/-- A half's sum of its weights. -/
theorem total_apply (q : Vec Ideal S512x256 .bf16) (k : Vec Ideal S1x1x2048x256 .bf16) (i : Fin 512) :
    shapeCast S512x1 (multiReduction (F := Ideal) .add [1] S512 (k0_pay2 q k) 0x00000000#32 reduces_S512x2048_S512 (.inl rfl) rfl) shapeCasts_S512_S512x1 (ValueIdx.ix2 i 0)
      = ∑ j, wgt (fun z => q (ValueIdx.ix2 i z)) (fun z => k (ix4 0 0 j z)) := by
  rw [cast_col]
  refine (Ideal.multiReduction_add_single (a := 1) (k0_pay2 q k) _ reduces_S512x2048_S512 _ _ (ix1 i)).trans ?_
  refine Finset.sum_congr rfl fun j _ => ?_
  refine Eq.trans ?_ (weight_apply q k i j)
  exact congrArg _ (eq_ix2 _)

/-- The new numerator, -/
theorem newO_apply (q : Vec Ideal S512x256 .bf16) (o : Vec Ideal S512x256 .f32) (ka va kb vb : Vec Ideal S1x1x2048x256 .bf16) (i : Fin 512) (x : Fin 256) :
    newO q o ka va kb vb (ValueIdx.ix2 i x) = o (ValueIdx.ix2 i x) + (∑ j, wgt (fun z => q (ValueIdx.ix2 i z)) (fun z => ka (ix4 0 0 j z)) * va (ix4 0 0 j x))
      + ∑ j, wgt (fun z => q (ValueIdx.ix2 i z)) (fun z => kb (ix4 0 0 j z)) * vb (ix4 0 0 j x) := by
  rw [← weighted_apply, ← weighted_apply]
  unfold newO k0_pay63 k0_pay3 k0_pay4 k0_pay7
  rw [ValueIdx.addf_apply, ValueIdx.addf_apply, shapeCast_self, weight_eq]

/-- and the new denominator. -/
theorem newL_apply (q : Vec Ideal S512x256 .bf16) (l : Vec Ideal S512x1 .f32) (ka kb : Vec Ideal S1x1x2048x256 .bf16) (i : Fin 512) :
    newL q l ka kb (ValueIdx.ix2 i 0) = l (ValueIdx.ix2 i 0) + (∑ j, wgt (fun z => q (ValueIdx.ix2 i z)) (fun z => ka (ix4 0 0 j z)))
      + ∑ j, wgt (fun z => q (ValueIdx.ix2 i z)) (fun z => kb (ix4 0 0 j z)) := by
  rw [← total_apply, ← total_apply]
  unfold newL k0_pay64 k0_pay6
  rw [shapeCast_self, ValueIdx.addf_apply, ValueIdx.addf_apply, weight_eq]

/-! ## The whole block of 4096 queries -/

/-- Row `r` of an array, found through its block. -/
theorem rows_at {W W' : ℕ} {α : Type} (x : (⟨2, ![4096, W]⟩ : Shape).Idx → α) (r : Fin 4096) (z : Fin W') (y : Fin W) :
    rows (blockOf (ValueIdx.ix2 r z)) (blockOf_lt (ValueIdx.ix2 r z)) x (ValueIdx.ix2 (inBlock (ValueIdx.ix2 r z) 0) y) = x (ValueIdx.ix2 r y) := by
  refine congrArg x (funext fun a => Fin.ext ?_)
  match a with
  | ⟨0, _⟩ => show 512 * (r.val / 512) + 1 * (r.val % 512) = r.val; omega
  | ⟨1, _⟩ => show 0 + 1 * y.val = y.val; omega

/-- Keys or values of a slot, at an element. -/
theorem part_at (x : Vec Ideal S2x2048x256 .bf16) (a : Fin 2) (j : Fin 2048) (z : Fin 256) : part x a (ix4 0 0 j z) = x (ix3 a j z) := by
  refine congrArg x (funext fun b => ?_)
  match b with
  | ⟨0, _⟩ => rfl
  | ⟨1, _⟩ => rfl
  | ⟨2, _⟩ => rfl

/-- A step's numerator, -/
theorem stepO_apply (q : Vec Ideal S4096x256 .bf16) (xa xb : Vec Ideal S2x2048x256 .bf16) (o : Vec Ideal S4096x256 .f32) (r : Fin 4096) (x : Fin 256) :
    stepO q xa xb o (ValueIdx.ix2 r x) = o (ValueIdx.ix2 r x) + (∑ j, wgt (fun z => q (ValueIdx.ix2 r z)) (fun z => xa (ix3 0 j z)) * xa (ix3 1 j x))
      + ∑ j, wgt (fun z => q (ValueIdx.ix2 r z)) (fun z => xb (ix3 0 j z)) * xb (ix3 1 j x) := by
  have e : inBlock (ValueIdx.ix2 r x) = ValueIdx.ix2 (inBlock (ValueIdx.ix2 r x) 0) x := eq_ix2 _
  unfold stepO glue
  rw [e]
  refine (newO_apply _ _ _ _ _ _ _ _).trans ?_
  simp only [rows_at, part_at]

/-- a step's denominator. -/
theorem stepL_apply (q : Vec Ideal S4096x256 .bf16) (xa xb : Vec Ideal S2x2048x256 .bf16) (l : Vec Ideal S4096x1 .f32) (r : Fin 4096) :
    stepL q xa xb l (ValueIdx.ix2 r 0) = l (ValueIdx.ix2 r 0) + (∑ j, wgt (fun z => q (ValueIdx.ix2 r z)) (fun z => xa (ix3 0 j z)))
      + ∑ j, wgt (fun z => q (ValueIdx.ix2 r z)) (fun z => xb (ix3 0 j z)) := by
  have e : inBlock (ValueIdx.ix2 r (0 : Fin 1)) = ValueIdx.ix2 (inBlock (ValueIdx.ix2 r (0 : Fin 1)) 0) (0 : Fin 1) := eq_ix2 _
  unfold stepL glue
  rw [e]
  refine (newL_apply _ _ _ _ _).trans ?_
  simp only [rows_at, part_at]

end Cert.KernelIdeal.Value

end
-- ==== Proof.Value.Kernel.lean ====
/-
# The kernel's result at an element

When the devices hold the blocks of whole arrays `Q`, `K`, `V`, a device's result at row `r`, column `x` is the weighted
sum of column `x` of `V` over all rows, divided by the sum of the weights. Each device takes the halves in its own order
round the ring; every half comes once.
-/
module

public import proofs.«01_k».proof.Proof.Value.Block
public import proofs.«01_k».proof.Proof.Ideal.Run
public import Idealize.ShloMosaic.Lib.Layout

@[expose] public section

noncomputable section

namespace Cert.KernelIdeal.Value

open Cert.KernelIdeal Cert.KernelIdeal.Gen Cert.KernelIdeal.Ring

open Idealize.ShloMosaic
open Idealize.ShloMosaic.TcCoe
open Idealize.ShloMosaic.ValueIdx (ix1 ix3 ix4 eq_ix2)
open scoped BigOperators

/-- A whole array: the eight devices' blocks. -/
abbrev Whole := Vec Ideal ⟨2, ![32768, 256]⟩ .bf16

/-- Row `j` of direction `d`'s half of device `e`'s block, in the whole array. -/
def row (e : Fin 8) (d : Bool) (j : Fin 2048) : Fin 32768 :=
  ⟨4096 * e.val + half d + j.val, by have := e.isLt; have := half_le d; have := j.isLt; omega⟩

/-- Row `r` of device `c`'s block, in the whole array. -/
def row₀ (c : Fin 8) (r : Fin 4096) : Fin 32768 := ⟨4096 * c.val + r.val, by have := c.isLt; have := r.isLt; omega⟩

/-! ## Every half once -/

theorem org_bijective (d : Bool) (c : Dev nD) : Function.Bijective fun i : Fin 8 => (org d c i.val : Fin 8) := by
  revert d c; decide

theorem row_bijective : Function.Bijective fun p : Fin 8 × Bool × Fin 2048 => row p.1 p.2.1 p.2.2 := by
  refine (Fintype.bijective_iff_injective_and_card _).mpr ⟨?_, by simp⟩
  rintro ⟨e, d, j⟩ ⟨e', d', j'⟩ h
  have h : 4096 * e.val + half d + j.val = 4096 * e'.val + half d' + j'.val := congrArg Fin.val h
  have hj := j.isLt
  have hj' := j'.isLt
  have : e.val = e'.val ∧ d = d' ∧ j.val = j'.val := by
    cases d <;> cases d' <;> simp only [half, if_true, Bool.false_eq_true, if_false] at h <;> refine ⟨?_, ?_, ?_⟩ <;> first | rfl | omega
  rw [Fin.ext this.1, this.2.1, Fin.ext this.2.2]

theorem sum_ring (c : Dev nD) (f : Fin 32768 → EReal) :
    ∑ i ∈ Finset.range 8, ((∑ j, f (row (org false c i) false j)) + ∑ j, f (row (org true c i) true j)) = ∑ y, f y := by
  have hd : ∀ d, ∑ i : Fin 8, ∑ j, f (row (org d c i.val) d j) = ∑ e : Fin 8, ∑ j, f (row e d j) := fun d =>
    (org_bijective d c).sum_comp fun e : Fin 8 => ∑ j, f (row e d j)
  rw [Finset.sum_range, Finset.sum_add_distrib, hd, hd, ← row_bijective.sum_comp f, Fintype.sum_prod_type, ← Finset.sum_add_distrib]
  refine Finset.sum_congr rfl fun e _ => ?_
  rw [Fintype.sum_prod_type, Fintype.sum_bool, add_comm]

/-! ## What the buffers hold -/

/-- Device `c`'s block of a whole array. -/
abbrev blk (c : Dev nD) (X : Whole) : Vec Ideal S4096x256 .bf16 := Layout.block ⟨2, ![4096, 256]⟩ ⟨2, ![32768, 256]⟩ 0 8 c X

theorem blk_apply (c : Dev nD) (X : Whole) (r : Fin 4096) (z : Fin 256) : blk c X (ValueIdx.ix2 r z) = X (ValueIdx.ix2 (row₀ c r) z) := by
  refine congrArg X (funext fun a => Fin.ext ?_)
  match a with
  | ⟨0, _⟩ => show c.val * 4096 + r.val = 4096 * c.val + r.val; omega
  | ⟨1, _⟩ => rfl

theorem halfOf_blk (d : Bool) (c : Dev nD) (X : Whole) (j : Fin 2048) (z : Fin 256) : halfOf d (blk c X) (ValueIdx.ix2 j z) = X (ValueIdx.ix2 (row c d j) z) := by
  refine congrArg X (funext fun a => Fin.ext ?_)
  match a with
  | ⟨0, _⟩ => show c.val * 4096 + (half d + j.val) = 4096 * c.val + half d + j.val; omega
  | ⟨1, _⟩ => rfl

theorem pair_fst (k v : Vec Ideal S2048x256 .bf16) (j : Fin 2048) (z : Fin 256) : pair k v (ix3 0 j z) = k (ValueIdx.ix2 j z) :=
  (if_pos (rfl : (0 : ℕ) = 0)).trans (congrArg k (eq_ix2 _))
theorem pair_snd (k v : Vec Ideal S2048x256 .bf16) (j : Fin 2048) (z : Fin 256) : pair k v (ix3 1 j z) = v (ValueIdx.ix2 j z) :=
  (if_neg Nat.one_ne_zero).trans (congrArg v (eq_ix2 _))

variable (m : (ℓ : Loc nD τ sig) → Buf (Elt Ideal) ℓ) (ρ : Dev nD → PrngReg) (Q K V : Whole)

/-- The devices hold the blocks of `Q`, `K`, `V`. -/
def Holds : Prop := ∀ c : Dev nD, m ((c : Thread nD τ).loc main_arg0) = blk c Q ∧ m ((c : Thread nD τ).loc main_arg1) = blk c K
  ∧ m ((c : Thread nD τ).loc main_arg2) = blk c V

/-- The weight of row `y` of `K` for row `r` of device `c`'s queries. -/
abbrev weight (c : Dev nD) (r : Fin 4096) (y : Fin 32768) : EReal := wgt (fun z => Q (ValueIdx.ix2 (row₀ c r) z)) (fun z => K (ValueIdx.ix2 y z))

variable {Q K V}

theorem slotV_keys (H : Holds m Q K V) (d : Bool) (c : Dev nD) (h : ℕ) (j : Fin 2048) (z : Fin 256) :
    slotV m ρ d c h (ix3 0 j z) = K (ValueIdx.ix2 (row (org d c h) d j) z) := by
  unfold slotV
  rw [pair_fst, kstg_eq, (H _).2.1, halfOf_blk]

theorem slotV_values (H : Holds m Q K V) (d : Bool) (c : Dev nD) (h : ℕ) (j : Fin 2048) (z : Fin 256) :
    slotV m ρ d c h (ix3 1 j z) = V (ValueIdx.ix2 (row (org d c h) d j) z) := by
  unfold slotV
  rw [pair_snd, vstg_eq, (H _).2.2, halfOf_blk]

theorem qstg_at (H : Holds m Q K V) (c : Dev nD) (r : Fin 4096) (z : Fin 256) : qstg m ρ c (ValueIdx.ix2 r z) = Q (ValueIdx.ix2 (row₀ c r) z) := by
  rw [qstg_eq, (H c).1]; exact blk_apply c Q r z

/-! ## The accumulators -/

/-- The numerator before step `h`, -/
theorem accO_apply (H : Holds m Q K V) (c : Dev nD) (h : ℕ) (r : Fin 4096) (x : Fin 256) :
    accO m ρ c h (ValueIdx.ix2 r x) = ∑ i ∈ Finset.range h,
      ((∑ j, weight Q K c r (row (org false c i) false j) * V (ValueIdx.ix2 (row (org false c i) false j) x))
        + ∑ j, weight Q K c r (row (org true c i) true j) * V (ValueIdx.ix2 (row (org true c i) true j) x)) := by
  induction h with
  | zero => rw [Finset.range_zero, Finset.sum_empty]; exact Ideal.ofBits_zero_f32
  | succ h ih =>
    refine (stepO_apply _ _ _ _ r x).trans ?_
    simp only [slotV_keys m ρ H, slotV_values m ρ H, qstg_at m ρ H]
    rw [Finset.sum_range_succ, ih, add_assoc]

/-- the denominator. -/
theorem accL_apply (H : Holds m Q K V) (c : Dev nD) (h : ℕ) (r : Fin 4096) :
    accL m ρ c h (ValueIdx.ix2 r 0) = ∑ i ∈ Finset.range h,
      ((∑ j, weight Q K c r (row (org false c i) false j)) + ∑ j, weight Q K c r (row (org true c i) true j)) := by
  induction h with
  | zero => rw [Finset.range_zero, Finset.sum_empty]; exact Ideal.ofBits_zero_f32
  | succ h ih =>
    refine (stepL_apply _ _ _ _ r).trans ?_
    simp only [slotV_keys m ρ H, qstg_at m ρ H]
    rw [Finset.sum_range_succ, ih, add_assoc]

/-- A column repeated along the rows. -/
theorem spread_apply (l : Vec Ideal S4096x1 .f32) (r : Fin 4096) (x : Fin 256) : broadcastTo S4096x256 l broadcasts_S4096x1_S4096x256 (ValueIdx.ix2 r x) = l (ValueIdx.ix2 r 0) :=
  broadcastTo_apply _ _ _ _ fun a => match a with
    | ⟨0, _⟩ => rfl
    | ⟨1, _⟩ => rfl

/-- The result: all rows' values, weighted, over all rows' weights. -/
theorem outV_apply (H : Holds m Q K V) (c : Dev nD) (r : Fin 4096) (x : Fin 256) :
    outV m ρ c (ValueIdx.ix2 r x) = Ideal.div (∑ y, weight Q K c r y * V (ValueIdx.ix2 y x)) (∑ y, weight Q K c r y) := by
  unfold outV k0_pay79
  rw [ValueIdx.divf_apply, shapeCast_self, spread_apply, accO_apply m ρ H, accL_apply m ρ H,
    sum_ring c (fun y => weight Q K c r y * V (ValueIdx.ix2 y x)), sum_ring c (fun y => weight Q K c r y)]

end Cert.KernelIdeal.Value

end
-- ==== Proof.Value.Softmax.lean ====
/-
# Softmax without the maximum

For real scores `s j` and any extended real values `v j`: the sum of the weights `exp (s j - M) / ∑ exp (s j' - M)` times
the values is `(∑ exp (s j) * v j) / ∑ exp (s j)`, whatever the real number `M`.
-/
module

public import Idealize.ShloMosaic.PureOps.Ideal.Laws

@[expose] public section

noncomputable section

namespace Cert.Softmax

open Idealize.ShloMosaic
open scoped BigOperators

variable {ι : Type} [Fintype ι]

theorem exp_coe (r : ℝ) : Ideal.exp (r : EReal) = (Real.exp r : EReal) := rfl

theorem sum_coe (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- Division by a positive real is the product with its inverse. -/
theorem div_coe {L : ℝ} (hL : 0 < L) (x : EReal) : Ideal.div x (L : EReal) = x * ((L⁻¹ : ℝ) : EReal) := by
  unfold Ideal.div
  rw [if_neg (by exact_mod_cast hL.ne'), EReal.coe_inv]

/-- A factor that is a real and not negative goes into a sum. -/
theorem sum_mul_coe {r : ℝ} (hr : 0 ≤ r) (s : Finset ι) (f : ι → EReal) : (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- A maximum, from `-∞`, of at least one real is a real. -/
theorem fold_max_real [Nonempty ι] (s : ι → ℝ) : ∃ M : ℝ, Finset.univ.fold max (⊥ : EReal) (fun j => (s j : EReal)) = (M : EReal) := by
  have h1 : Finset.univ.fold max (⊥ : EReal) (fun j => (s j : EReal)) < ⊤ :=
    (Finset.fold_max_lt _).mpr ⟨bot_lt_top, fun j _ => EReal.coe_lt_top _⟩
  have h2 : ⊥ < Finset.univ.fold max (⊥ : EReal) (fun j => (s j : EReal)) :=
    (Finset.lt_fold_max _).mpr (.inr ⟨Classical.arbitrary ι, Finset.mem_univ _, EReal.bot_lt_coe _⟩)
  exact ⟨_, (EReal.coe_toReal h1.ne h2.ne').symm⟩

/-- The weighted sum in the two spellings. -/
theorem softmax_eq [Nonempty ι] (s : ι → ℝ) (v : ι → EReal) (M : ℝ) :
    ∑ j, Ideal.div (Ideal.exp ((s j : EReal) - (M : EReal))) (0 + ∑ i, Ideal.exp ((s i : EReal) - (M : EReal))) * v j
      = Ideal.div (∑ j, Ideal.exp (s j : EReal) * v j) (∑ j, Ideal.exp (s j : EReal)) := by
  have e : ∀ j, Ideal.exp ((s j : EReal) - (M : EReal)) = ((Real.exp (s j - M) : ℝ) : EReal) := fun j => by
    rw [← EReal.coe_sub, exp_coe]
  have hL : 0 < ∑ j, Real.exp (s j) := Finset.sum_pos (fun j _ => Real.exp_pos _) Finset.univ_nonempty
  have hS : 0 < ∑ j, Real.exp (s j - M) := Finset.sum_pos (fun j _ => Real.exp_pos _) Finset.univ_nonempty
  simp only [e, exp_coe, zero_add]
  rw [sum_coe, sum_coe, div_coe hL, sum_mul_coe (inv_nonneg.mpr hL.le)]
  refine Finset.sum_congr rfl fun j _ => ?_
  rw [div_coe hS, mul_right_comm _ (v j), ← EReal.coe_mul, ← EReal.coe_mul]
  congr 2
  have hsum : ∑ i, Real.exp (s i - M) = (∑ i, Real.exp (s i)) * (Real.exp M)⁻¹ := by
    rw [Finset.sum_mul]
    exact Finset.sum_congr rfl fun i _ => by rw [Real.exp_sub, div_eq_mul_inv]
  have hM : Real.exp M ≠ 0 := (Real.exp_pos M).ne'
  rw [hsum, Real.exp_sub]
  field_simp

end Cert.Softmax

end
-- ==== Proof.Value.Reference.lean ====
/-
# The reference's result at an element

For real queries and keys the reference's result at row `r`, column `x` is the weighted sum of column `x` of the values
over all rows, divided by the sum of the weights: its maximum is a real, so it cancels.
-/
module

public import proofs.«01_k».proof.Proof.Value.Softmax
public import proofs.«01_k».proof.Proof.Gen.ReferenceIdeal.Run
public import Idealize.ShloMosaic.Lib.ValueIdx
public import Idealize.ShloMosaic.Lib.IdealHost
public import Idealize.ShloMosaic.Lib.StackMember
public import Idealize.ShloMosaic.Lib.Pipeline.Value

@[expose] public section

noncomputable section

namespace Cert.ReferenceIdeal.Value

open Cert.ReferenceIdeal Cert.ReferenceIdeal.Gen

open Idealize.ShloMosaic
open Idealize.ShloMosaic.ValueIdx (ix1 ix2 eq_ix1 eq_ix2)
open scoped BigOperators

/-- The keys, columns first. -/
def keysT (k : FVec Ideal S32768x256 .bf16) : FVec Ideal S256x32768 .f32 :=
  transpose S256x32768 [1, 0] (extf .f32 k bitsLt_bf16_f32) transposes_S32768x256_S256x32768_1_0

/-- The scores. -/
def scores (q k : FVec Ideal S32768x256 .bf16) : FVec Ideal S32768x32768 .f32 :=
  Host.divf (Host.dotGeneral (φ₂ := .f32) dot_S32768x256_S256x32768_S32768x32768_1_0_0_1_n_n none (extf .f32 q bitsLt_bf16_f32) (keysT k))
    (broadcastInDim S32768x32768 ![] bcast_S_S32768x32768 (Host.sqrt (constant (F := Ideal) S_ .f32 0x43800000#32)))

/-- One number a row, repeated along it. -/
def spread (x : FVec Ideal S32768 .f32) : FVec Ideal S32768x32768 .f32 :=
  broadcastInDim S32768x32768 ![0, 1] bcast_S32768x1_S32768x32768_0_1 (broadcastInDim S32768x1 ![0] bcast_S32768_S32768x1_0 x)

/-- Each row's maximum. -/
def rowMax (s : FVec Ideal S32768x32768 .f32) : FVec Ideal S32768 .f32 :=
  Host.reduce FloatOps.maximumf s (constant (F := Ideal) S_ .f32 0xFF800000#32) reducesTo_S32768x32768_S32768_d1 h_S_

/-- Each row's sum. -/
def rowSum (s : FVec Ideal S32768x32768 .f32) : FVec Ideal S32768 .f32 :=
  Host.reduceAdd s (constant (F := Ideal) S_ .f32 0x00000000#32) reducesTo_S32768x32768_S32768_d1 h_S_

/-- The exponentials, the maximum taken off. -/
def expo (q k : FVec Ideal S32768x256 .bf16) : FVec Ideal S32768x32768 .f32 :=
  Host.exp (subf (scores q k) (spread (rowMax (scores q k))))

/-- The reference's result. -/
def result (q k v : FVec Ideal S32768x256 .bf16) : FVec Ideal S32768x256 .f32 :=
  Host.dotGeneral (φ₂ := .f32) dot_S32768x32768_S32768x256_S32768x256_1_0_0_1_n_n none (Host.divf (expo q k) (spread (rowSum (expo q k)))) (extf .f32 v bitsLt_bf16_f32)

open Idealize.ShloMosaic.TcCoe Idealize.SL.Sem in
/-- The reference's run, its result by that name. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

/-! ## Its parts at an element -/

theorem keysT_apply (k : FVec Ideal S32768x256 .bf16) (z : Fin 256) (y : Fin 32768) : keysT k (ix2 z y) = k (ix2 y z) :=
  transpose_apply _ _ _ _ (ix2 y z) fun b => match b with
    | ⟨0, _⟩ => rfl
    | ⟨1, _⟩ => rfl

theorem spread_apply (x : FVec Ideal S32768 .f32) (r y : Fin 32768) : spread x (ix2 r y) = x (ix1 r) :=
  (broadcastInDim_apply _ _ _ _ (ix2 r 0) fun a => match a with
    | ⟨0, _⟩ => rfl
    | ⟨1, _⟩ => rfl).trans
  (broadcastInDim_apply _ _ _ _ (ix1 r) fun a => match a with
    | ⟨0, _⟩ => rfl)

/-- The square root of 256, as a word: 16. -/
theorem sixteen : Ideal.sqrt (Ideal.ofBits .f32 0x43800000#32) = ((16 : ℝ) : EReal) := by
  have h : Ideal.ofBits .f32 0x43800000#32 = ((256 : ℝ) : EReal) := by
    simp [Ideal.ofBits, Ideal.ieee, -EReal.coe_mul]; norm_num
  have hs : Real.sqrt 256 = 16 := by rw [show (256 : ℝ) = 16 ^ 2 by norm_num]; exact Real.sqrt_sq (by norm_num)
  rw [h]
  show (if (256 : ℝ) < 0 then (⊥ : EReal) else ((Real.sqrt 256 : ℝ) : EReal)) = _
  rw [if_neg (by norm_num), hs]

theorem scores_apply (q k : FVec Ideal S32768x256 .bf16) (r y : Fin 32768) :
    scores q k (ix2 r y) = Ideal.div (∑ z, q (ix2 r z) * k (ix2 y z)) ((16 : ℝ) : EReal) := by
  unfold scores
  rw [ValueIdx.hostDivf_apply]
  refine congrArg₂ Ideal.div ?_ sixteen
  refine (StackMember.dotGeneral_plain_apply none _ _ r y).trans ?_
  exact Finset.sum_congr rfl fun z _ => by rw [keysT_apply, ValueIdx.extf_apply]

theorem rowMax_apply (s : FVec Ideal S32768x32768 .f32) (r : Fin 32768) :
    rowMax s (ix1 r) = Finset.univ.fold max (⊥ : EReal) fun y : Fin 32768 => s (ix2 r y) := by
  have hr : S32768x32768.Reduces [1] S32768 := by decide
  refine (Host.reduce_eq_fold_single (α := EReal) max s _ reducesTo_S32768x32768_S32768_d1 hr h_S_ (ix1 r)).trans ?_
  have hb : constant (F := Ideal) S_ .f32 0xFF800000#32 (Shape.Idx.first h_S_) = (⊥ : EReal) := by
    show Ideal.ofBits .f32 0xFF800000#32 = ⊥
    simp [Ideal.ofBits, Ideal.ieee]
  rw [hb]
  refine congrArg (fun f => Finset.univ.fold max (⊥ : EReal) f) (funext fun y => congrArg s (eq_ix2 _))

theorem rowSum_apply (s : FVec Ideal S32768x32768 .f32) (r : Fin 32768) : rowSum s (ix1 r) = 0 + ∑ y : Fin 32768, s (ix2 r y) := by
  have hr : S32768x32768.Reduces [1] S32768 := by decide
  refine (Ideal.hostReduceAdd_single reducesTo_S32768x32768_S32768_d1 hr s _ (ix1 r)).trans ?_
  exact congrArg₂ (· + ·) Ideal.ofBits_zero_f32 (Finset.sum_congr rfl fun y _ => congrArg s (eq_ix2 _))

theorem expo_apply (q k : FVec Ideal S32768x256 .bf16) (r y : Fin 32768) :
    expo q k (ix2 r y) = Ideal.exp (scores q k (ix2 r y) - Finset.univ.fold max (⊥ : EReal) fun y : Fin 32768 => scores q k (ix2 r y)) := by
  rw [← rowMax_apply, ← spread_apply (rowMax (scores q k)) r y]
  rfl

theorem result_apply (q k v : FVec Ideal S32768x256 .bf16) (r : Fin 32768) (x : Fin 256) :
    result q k v (ix2 r x) = ∑ y, Ideal.div (expo q k (ix2 r y)) (0 + ∑ i, expo q k (ix2 r i)) * v (ix2 y x) := by
  refine (StackMember.dotGeneral_plain_apply none _ _ r x).trans ?_
  exact Finset.sum_congr rfl fun y _ => by rw [ValueIdx.hostDivf_apply, spread_apply, rowSum_apply, ValueIdx.extf_apply]

/-! ## With real queries and keys -/

/-- A real score is the exponent of the weight: its sixteenth may be taken of each product. -/
theorem score_real (a b : Fin 256 → ℝ) : Ideal.div (∑ z, (a z : EReal) * (b z : EReal)) ((16 : ℝ) : EReal) = ((∑ z, a z * (1 / 16) * b z : ℝ) : EReal) := by
  have e : ∀ z, (a z : EReal) * (b z : EReal) = ((a z * b z : ℝ) : EReal) := fun z => (EReal.coe_mul _ _).symm
  simp only [e]
  rw [Softmax.sum_coe, Softmax.div_coe (by norm_num), ← EReal.coe_mul, Finset.sum_mul]
  exact congrArg _ (Finset.sum_congr rfl fun z _ => by ring)

/-- The result, at an element: all rows' values, weighted, over all rows' weights. -/
theorem result_real (q k v : FVec Ideal S32768x256 .bf16) (a b : Fin 32768 → Fin 256 → ℝ) (ha : ∀ r z, q (ix2 r z) = (a r z : EReal))
    (hb : ∀ r z, k (ix2 r z) = (b r z : EReal)) (r : Fin 32768) (x : Fin 256) :
    result q k v (ix2 r x) = Ideal.div (∑ y, Ideal.exp ((∑ z, a r z * (1 / 16) * b y z : ℝ) : EReal) * v (ix2 y x))
      (∑ y, Ideal.exp ((∑ z, a r z * (1 / 16) * b y z : ℝ) : EReal)) := by
  have hs : ∀ y, scores q k (ix2 r y) = ((∑ z, a r z * (1 / 16) * b y z : ℝ) : EReal) := fun y => by
    rw [scores_apply, ← score_real]
    simp only [ha, hb]
  rw [result_apply]
  simp only [expo_apply, hs]
  obtain ⟨M, hM⟩ := Softmax.fold_max_real fun y : Fin 32768 => ∑ z, a r z * (1 / 16) * b y z
  rw [hM]
  exact Softmax.softmax_eq _ _ M

end Cert.ReferenceIdeal.Value

end
-- ==== Proof.Value.Finite.lean ====
/-
# What the precondition says

Each element of the queries and of the keys is a real.
-/
module

public import proofs.«01_k».proof.Pre_finite_scores_KernelIdeal
public import Idealize.ShloMosaic.Lib.IdealHost
public import Idealize.ShloMosaic.Lib.ReduceAll

@[expose] public section

noncomputable section

namespace Cert.Pre_finite_scores_KernelIdeal

open Idealize.ShloMosaic
open Facts

/-- An extended real whose absolute value is below `+∞` is a real. -/
theorem real_of_abs_lt {x : EReal} (h : max x (-x) < ⊤) : ∃ a : ℝ, x = (a : EReal) := by
  have h1 : x ≠ ⊤ := fun e => by rw [e] at h; simp at h
  have h2 : x ≠ ⊥ := fun e => by rw [e] at h; simp at h
  exact ⟨x.toReal, (EReal.coe_toReal h1 h2).symm⟩

/-- The comparison of one element, read back. -/
theorem real_of_cmp (x : EReal) (h : Ideal.cmp .olt (max x (-x)) (Ideal.ofBits .bf16 0x7F80#16) = 1#1) : ∃ a : ℝ, x = (a : EReal) := by
  have ht : Ideal.ofBits .bf16 0x7F80#16 = ⊤ := by simp [Ideal.ofBits, Ideal.ieee]
  rw [ht] at h
  refine real_of_abs_lt ?_
  by_contra hn
  have hf : Ideal.cmp .olt (max x (-x)) ⊤ = 0#1 := by unfold Ideal.cmp; simp only [decide_eq_false hn]; rfl
  rw [hf] at h
  exact absurd h (by decide)

theorem real_of_fn [Facts] (q k v : FVec Ideal S4096x256 .bf16) (h : fn q k v = fun _ => 1#1) :
    (∀ i, ∃ a : ℝ, q i = (a : EReal)) ∧ ∀ i, ∃ a : ℝ, k i = (a : EReal) := by
  have h0 := IntOp.andi_eq_one.mp (congrFun h (fun a => a.elim0))
  haveI : Subsingleton S_.Idx := ⟨fun a b => funext fun i => i.elim0⟩
  exact ⟨fun i => real_of_cmp _ (Host.reduce_andi_all _ _ _ _ _ h0.1 i), fun i => real_of_cmp _ (Host.reduce_andi_all _ _ _ _ _ h0.2 i)⟩

end Cert.Pre_finite_scores_KernelIdeal

end
-- ==== Proof.Value.Agree.lean ====
/-
# The kernel's result is the reference's

On real queries and keys, each device's result is its block of the reference's.
-/
module

public import proofs.«01_k».proof.Proof.Value.Kernel
public import proofs.«01_k».proof.Proof.Value.Reference
public import proofs.«01_k».proof.Proof.Value.Finite

@[expose] public section

noncomputable section

namespace Cert.KernelIdeal.Value

open Cert.KernelIdeal Cert.KernelIdeal.Gen Cert.KernelIdeal.Ring

open Idealize.ShloMosaic
open Idealize.ShloMosaic.TcCoe
open Idealize.ShloMosaic.ValueIdx (eq_ix2)
open scoped BigOperators

/-- A weight of reals. -/
theorem wgt_real (a b : Fin 256 → ℝ) : wgt (fun z => (a z : EReal)) (fun z => (b z : EReal)) = Ideal.exp ((∑ z, a z * (1 / 16) * b z : ℝ) : EReal) := by
  unfold wgt
  rw [← Softmax.sum_coe]
  exact congrArg Ideal.exp (Finset.sum_congr rfl fun z _ => by rw [EReal.coe_mul, EReal.coe_mul])

/-- Every row of a whole array is a row of a block. -/
theorem real_of_blocks (X : Whole) (h : ∀ c i, ∃ a : ℝ, blk c X i = (a : EReal)) : ∃ a : Fin 32768 → Fin 256 → ℝ, ∀ r z, X (ValueIdx.ix2 r z) = (a r z : EReal) := by
  have hr : ∀ (r : Fin 32768) (z : Fin 256), ∃ a : ℝ, X (ValueIdx.ix2 r z) = (a : EReal) := fun r z => by
    have hlt := r.isLt
    obtain ⟨a, ha⟩ := h (⟨r.val / 4096, by omega⟩ : Fin 8) (ValueIdx.ix2 (⟨r.val % 4096, Nat.mod_lt _ (by decide)⟩ : Fin 4096) z)
    refine ⟨a, ?_⟩
    rw [← ha, blk_apply]
    refine congrArg (fun r => X (ValueIdx.ix2 r z)) (Fin.ext ?_)
    show r.val = 4096 * (r.val / 4096) + r.val % 4096
    omega
  choose a ha using hr
  exact ⟨a, ha⟩

theorem outV_eq [hPre : Cert.Pre_finite_scores_KernelIdeal.Facts] (m : (ℓ : Loc nD τ sig) → Buf (Elt Ideal) ℓ) (ρ : Dev nD → PrngReg) (Q K V : Whole) (H : Holds m Q K V)
    (hf : ∀ c : Dev nD, Cert.Pre_finite_scores_KernelIdeal.fn (F := Ideal) (m ((c : Thread nD τ).loc main_arg0)) (m ((c : Thread nD τ).loc main_arg1))
      (m ((c : Thread nD τ).loc main_arg2)) = fun _ => 1#1) (c : Dev nD) :
    outV m ρ c = Layout.block ⟨2, ![4096, 256]⟩ ⟨2, ![32768, 256]⟩ 0 8 c (Cert.ReferenceIdeal.Value.result Q K V) := by
  have hfin := fun c => Cert.Pre_finite_scores_KernelIdeal.real_of_fn _ _ _ (hf c)
  obtain ⟨a, ha⟩ := real_of_blocks Q fun c i => by rw [← (H c).1]; exact (hfin c).1 i
  obtain ⟨b, hb⟩ := real_of_blocks K fun c i => by rw [← (H c).2.1]; exact (hfin c).2 i
  funext i
  rw [eq_ix2 i]
  refine (outV_apply m ρ H c (i 0) (i 1)).trans ?_
  refine Eq.trans ?_ (blk_apply c (Cert.ReferenceIdeal.Value.result Q K V) (i 0) (i 1)).symm
  refine Eq.trans ?_ (Cert.ReferenceIdeal.Value.result_real Q K V a b ha hb _ _).symm
  have hw : ∀ y, weight Q K c (i 0) y = Ideal.exp ((∑ z, a (row₀ c (i 0)) z * (1 / 16) * b y z : ℝ) : EReal) := fun y => by
    rw [← wgt_real]
    unfold weight
    simp only [ha, hb]
  simp only [hw]

end Cert.KernelIdeal.Value

end
-- ==== Proof.lean ====
/-
# The proof

The frames of the kernel, of its reading over the extended reals and of the reference; that the two kernels are one
program; and that the kernel's result on each device is that device's block of the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Run
public import proofs.«01_k».proof.Proof.Same
public import proofs.«01_k».proof.Proof.Gen.Pre_finite_scores_KernelIdeal
public import proofs.«01_k».proof.Proof.Gen.Pre_finite_scores_ReferenceIdeal
public import proofs.«01_k».proof.Proof.Value.Agree
public import Idealize.ShloMosaic.Adequacy
public import Idealize.ShloMosaic.Lib.Quiescent
public import Idealize.ShloMosaic.Init

@[expose] public section

noncomputable section

-- The frames also say that every semaphore counter ends at zero.

namespace Cert.Proof

open Idealize.ShloMosaic Idealize.SL.Sem Cert.Kernel

theorem frame_kernel : Cert.quiescent_Kernel (hKernel := Cert.Kernel.Gen.facts) := fun m g _ =>
  (θ_run _ _ _).mono (fun _ h => ⟨fun c => (h.1 c).2, h.2⟩) (Cert.Same.run_of _ _ (Cert.KernelIdeal.Ring.run m g))

theorem frame_ideal : Cert.quiescent_KernelIdeal (hKernelIdeal := Cert.KernelIdeal.Gen.facts) := fun m g _ =>
  (θ_run _ _ _).mono (fun _ h => ⟨fun c => (h.1 c).2, h.2⟩) (Cert.KernelIdeal.Ring.run m g)

theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Each device's result is its block of the reference's, for real queries and keys. -/
theorem value : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) :=
  fun m g m' g' hpre hargs =>
    ⟨_, (θ_run _ _ _).mono (fun _ h c => ⟨((h.1 c).1).trans
          (Cert.KernelIdeal.Value.outV_eq (hPre := Cert.Pre_finite_scores_KernelIdeal.Gen.facts) m g _ _ _ hargs hpre c), (h.1 c).2⟩) (Cert.KernelIdeal.Ring.run m g),
      (θ_run _ _ _).mono (fun _ h => h 0) (Cert.ReferenceIdeal.Value.run_result m' g')⟩

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m g _ => frame_ideal m g trivial, frame_reference, fun m g _ => frame_reference m g trivial, trivial, value⟩

end Cert.Proof

end
